-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S4x3x65536 : Shape := ⟨3, ![4, 3, 65536]⟩
abbrev S4x128x65536 : Shape := ⟨3, ![4, 128, 65536]⟩
abbrev S131x128 : Shape := ⟨2, ![131, 128]⟩
abbrev S128 : Shape := ⟨1, ![128]⟩
abbrev S_ : Shape := ⟨0, ![]⟩

class Facts : Prop where
  bcast_S_S4x3x65536 : S_.BroadcastsInDim S4x3x65536 (![] : Fin 0 → Fin S4x3x65536.rank)
  bcast_S_S4x128x65536 : S_.BroadcastsInDim S4x128x65536 (![] : Fin 0 → Fin S4x128x65536.rank)
  bcast_S_S131x128 : S_.BroadcastsInDim S131x128 (![] : Fin 0 → Fin S131x128.rank)
  bcast_S_S128 : S_.BroadcastsInDim S128 (![] : Fin 0 → Fin S128.rank)

variable [Facts]

def fn {F : FTy → Type} [FloatOps F] (main_arg0 : FVec F S4x3x65536 .f32) (main_arg1 : FVec F S4x128x65536 .f32) (main_arg2 : FVec F S131x128 .f32) (main_arg3 : FVec F S128 .f32) : IVec S4x3x65536 1 × IVec S4x128x65536 1 × IVec S131x128 1 × IVec S128 1 :=
  let main_v0 : FVec F S4x3x65536 .f32 := Host.absf main_arg0
  let main_cst : FVec F S_ .f32 := constant S_ .f32 0x7F800000#32
  let main_v1 : FVec F S4x3x65536 .f32 := broadcastInDim S4x3x65536 ![] bcast_S_S4x3x65536 main_cst
  let main_v2 : IVec S4x3x65536 1 := cmpf .olt main_v0 main_v1
  let main_v3 : FVec F S4x128x65536 .f32 := Host.absf main_arg1
  let main_cst_0 : FVec F S_ .f32 := constant S_ .f32 0x7F800000#32
  let main_v4 : FVec F S4x128x65536 .f32 := broadcastInDim S4x128x65536 ![] bcast_S_S4x128x65536 main_cst_0
  let main_v5 : IVec S4x128x65536 1 := cmpf .olt main_v3 main_v4
  let main_v6 : FVec F S131x128 .f32 := Host.absf main_arg2
  let main_cst_1 : FVec F S_ .f32 := constant S_ .f32 0x7F800000#32
  let main_v7 : FVec F S131x128 .f32 := broadcastInDim S131x128 ![] bcast_S_S131x128 main_cst_1
  let main_v8 : IVec S131x128 1 := cmpf .olt main_v6 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  (main_v2, main_v5, main_v8, main_v11)
-- ==== Kernel.lean ====
abbrev S4x3x65536 : Shape := ⟨3, ![4, 3, 65536]⟩
abbrev S4x128x65536 : Shape := ⟨3, ![4, 128, 65536]⟩
abbrev S131x128 : Shape := ⟨2, ![131, 128]⟩
abbrev S128 : Shape := ⟨1, ![128]⟩
abbrev S_ : Shape := ⟨0, ![]⟩
abbrev S4x1x65536 : Shape := ⟨3, ![4, 1, 65536]⟩
abbrev S4x65536 : Shape := ⟨2, ![4, 65536]⟩
abbrev S1x128 : Shape := ⟨2, ![1, 128]⟩
abbrev S2x128 : Shape := ⟨2, ![2, 128]⟩
abbrev S1x3x8192 : Shape := ⟨3, ![1, 3, 8192]⟩
abbrev S1x128x8192 : Shape := ⟨3, ![1, 128, 8192]⟩
abbrev S3x8192 : Shape := ⟨2, ![3, 8192]⟩
abbrev S128x8192 : Shape := ⟨2, ![128, 8192]⟩
abbrev S3x128 : Shape := ⟨2, ![3, 128]⟩
abbrev S128x128 : Shape := ⟨2, ![128, 128]⟩
abbrev S8192x128 : Shape := ⟨2, ![8192, 128]⟩
abbrev S64x1x4096 : Shape := ⟨3, ![64, 1, 4096]⟩
abbrev S4x32768x128 : Shape := ⟨3, ![4, 32768, 128]⟩
abbrev S1x1x4096 : Shape := ⟨3, ![1, 1, 4096]⟩
abbrev S1x3x4096 : Shape := ⟨3, ![1, 3, 4096]⟩
abbrev S1x128x4096 : Shape := ⟨3, ![1, 128, 4096]⟩
abbrev S4096x128 : Shape := ⟨2, ![4096, 128]⟩
abbrev S32768x128 : Shape := ⟨2, ![32768, 128]⟩
abbrev S3x4096 : Shape := ⟨2, ![3, 4096]⟩
abbrev S128x4096 : Shape := ⟨2, ![128, 4096]⟩
abbrev S8x128 : Shape := ⟨2, ![8, 128]⟩
abbrev S1x1x1 : Shape := ⟨3, ![1, 1, 1]⟩
abbrev S1x32768x128 : Shape := ⟨3, ![1, 32768, 128]⟩
abbrev S4x128x32768 : Shape := ⟨3, ![4, 128, 32768]⟩
abbrev S4x128x32x32x32 : Shape := ⟨5, ![4, 128, 32, 32, 32]⟩

abbrev nBuf : Space → Nat
  | .hbm => 51
  | .vmem => 19
  | .smem => 2
  | _ => 0

abbrev bufTy : (tb : Table) → Fin (tcTables nBuf tb) → BufTy
  | .hbm, ⟨0, _⟩ => ⟨S4x3x65536, .f32⟩
  | .hbm, ⟨1, _⟩ => ⟨S4x128x65536, .f32⟩
  | .hbm, ⟨2, _⟩ => ⟨S131x128, .f32⟩
  | .hbm, ⟨3, _⟩ => ⟨S128, .f32⟩
  | .hbm, ⟨4, _⟩ => ⟨S_, .f32⟩
  | .hbm, ⟨5, _⟩ => ⟨S4x3x65536, .f32⟩
  | .hbm, ⟨6, _⟩ => ⟨S4x3x65536, .f32⟩
  | .hbm, ⟨7, _⟩ => ⟨S4x3x65536, .f32⟩
  | .hbm, ⟨8, _⟩ => ⟨S4x3x65536, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S4x3x65536, .i32⟩
  | .hbm, ⟨13, _⟩ => ⟨S4x3x65536, .i32⟩
  | .hbm, ⟨14, _⟩ => ⟨S_, .i32⟩
  | .hbm, ⟨15, _⟩ => ⟨S4x3x65536, .i32⟩
  | .hbm, ⟨16, _⟩ => ⟨S4x3x65536, .i32⟩
  | .hbm, ⟨17, _⟩ => ⟨S4x1x65536, .i32⟩
  | .hbm, ⟨18, _⟩ => ⟨S4x65536, .i32⟩
  | .hbm, ⟨19, _⟩ => ⟨S_, .i32⟩
  | .hbm, ⟨20, _⟩ => ⟨S4x65536, .i32⟩
  | .hbm, ⟨21, _⟩ => ⟨S4x65536, .i32⟩
  | .hbm, ⟨22, _⟩ => ⟨S4x1x65536, .i32⟩
  | .hbm, ⟨23, _⟩ => ⟨S4x65536, .i32⟩
  | .hbm, ⟨24, _⟩ => ⟨S_, .i32⟩
  | .hbm, ⟨25, _⟩ => ⟨S4x65536, .i32⟩
  | .hbm, ⟨26, _⟩ => ⟨S4x65536, .i32⟩
  | .hbm, ⟨27, _⟩ => ⟨S4x65536, .i32⟩
  | .hbm, ⟨28, _⟩ => ⟨S4x1x65536, .i32⟩
  | .hbm, ⟨29, _⟩ => ⟨S4x65536, .i32⟩
  | .hbm, ⟨30, _⟩ => ⟨S4x65536, .i32⟩
  | .hbm, ⟨31, _⟩ => ⟨S1x128, .f32⟩
  | .hbm, ⟨32, _⟩ => ⟨S2x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S_, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S_, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S64x1x4096, .i32⟩
  | .hbm, ⟨48, _⟩ => ⟨S4x32768x128, .f32⟩
  | .hbm, ⟨49, _⟩ => ⟨S4x128x32768, .f32⟩
  | .hbm, ⟨50, _⟩ => ⟨S4x128x32x32x32, .f32⟩
  | .local _ .vmem, ⟨0, _⟩ => ⟨S1x3x8192, .f32⟩
  | .local _ .vmem, ⟨1, _⟩ => ⟨S1x3x8192, .f32⟩
  | .local _ .vmem, ⟨2, _⟩ => ⟨S1x128x8192, .f32⟩
  | .local _ .vmem, ⟨3, _⟩ => ⟨S1x128x8192, .f32⟩
  | .local _ .vmem, ⟨4, _⟩ => ⟨S131x128, .f32⟩
  | .local _ .vmem, ⟨5, _⟩ => ⟨S1x128, .f32⟩
  | .local _ .vmem, ⟨6, _⟩ => ⟨S2x128, .f32⟩
  | .local _ .vmem, ⟨7, _⟩ => ⟨S1x3x4096, .f32⟩
  | .local _ .vmem, ⟨8, _⟩ => ⟨S1x3x4096, .f32⟩
  | .local _ .vmem, ⟨9, _⟩ => ⟨S1x128x4096, .f32⟩
  | .local _ .vmem, ⟨10, _⟩ => ⟨S1x128x4096, .f32⟩
  | .local _ .vmem, ⟨11, _⟩ => ⟨S131x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S4096x128, .f32⟩
  | .local _ .vmem, ⟨16, _⟩ => ⟨S32768x128, .f32⟩
  | .local _ .vmem, ⟨17, _⟩ => ⟨S32768x128, .f32⟩
  | .local _ .vmem, ⟨18, _⟩ => ⟨S32768x128, .f32⟩
  | .local _ .smem, ⟨0, _⟩ => ⟨S1x1x4096, .i32⟩
  | .local _ .smem, ⟨1, _⟩ => ⟨S1x1x4096, .i32⟩
  | _, _ => ⟨S4x3x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_c_0 : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_scratch0 : Ref sig .tc := ⟨.vmem, 15, rfl⟩
abbrev cc1_scratch1 : Ref sig .tc := ⟨.vmem, 16, rfl⟩
abbrev cc1_scratch2 : Ref sig .tc := ⟨.vmem, 17, rfl⟩
abbrev cc1_scratch3 : Ref sig .tc := ⟨.vmem, 18, rfl⟩
abbrev cc1_stg0_0 : Ref sig .tc := ⟨.smem, 0, rfl⟩
abbrev cc1_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x3x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S131x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev grid1 : Pipeline.Grid := ⟨2, ![4, 16], ![false, false]⟩

@[reducible] def k1_t1_loop : Scf.Loop 32 :=
  let c0_i32_19 : BitVec 32 := 0#32
  let c512_i32 : BitVec 32 := 512#32
  let v29 : BitVec 32 := Scalar.addi c0_i32_19 c512_i32
  let c1_i32 : BitVec 32 := 1#32
  ⟨c0_i32_19, v29, c1_i32⟩
def k1_off1 (k1_t1 : Fin k1_t1_loop.trips) : Fin 2 → Nat :=
  let c0_i32_19 : BitVec 32 := 0#32
  let c1_i32 : BitVec 32 := 1#32
  let arg15 : BitVec 32 := Scf.iv c0_i32_19 c1_i32 k1_t1
  let c8_i32 : BitVec 32 := 8#32
  let v33 : BitVec 32 := Scalar.muli arg15 c8_i32
  let v34 : Index := Scalar.indexCast v33
  let c0_22 : Index := 0#32
  ![v34.toNat, 0]
def k1_off2 (k1_t1 : Fin k1_t1_loop.trips) : Fin 3 → Nat :=
  let c0_24 : Index := 0#32
  let c0_25 : Index := 0#32
  let c0_i32_19 : BitVec 32 := 0#32
  let c1_i32 : BitVec 32 := 1#32
  let arg15 : BitVec 32 := Scf.iv c0_i32_19 c1_i32 k1_t1
  let c8_i32 : BitVec 32 := 8#32
  let v33 : BitVec 32 := Scalar.muli arg15 c8_i32
  let c0_i32_23 : BitVec 32 := 0#32
  let v36 : BitVec 32 := Scalar.addi v33 c0_i32_23
  let v37 : Index := Scalar.indexCast v36
  ![0, 0, v37.toNat]
def k1_off3 (v38 : BitVec 32) : Fin 2 → Nat :=
  let v40 : Index := Scalar.indexCast v38
  let c0_26 : Index := 0#32
  ![v40.toNat, 0]

def k1_chk1 (v38 : BitVec 32) : Prop :=
  (∀ a, (k1_off3 v38) a + S1x128.size a ≤ S32768x128.size a)
theorem k1_off3_inb : ∀ (v38 : BitVec 32) (k1_hw1 : k1_chk1 v38), ∀ a, (k1_off3 v38) a + S1x128.size a ≤ S32768x128.size a := fun v38 k1_hw1 => k1_hw1

def k1_off4 (k1_t1 : Fin k1_t1_loop.trips) : Fin 3 → Nat :=
  let c0_29 : Index := 0#32
  let c0_30 : Index := 0#32
  let c0_i32_19 : BitVec 32 := 0#32
  let c1_i32 : BitVec 32 := 1#32
  let arg15 : BitVec 32 := Scf.iv c0_i32_19 c1_i32 k1_t1
  let c8_i32 : BitVec 32 := 8#32
  let v33 : BitVec 32 := Scalar.muli arg15 c8_i32
  let c1_i32_28 : BitVec 32 := 1#32
  let v47 : BitVec 32 := Scalar.addi v33 c1_i32_28
  let v48 : Index := Scalar.indexCast v47
  ![0, 0, v48.toNat]
def k1_off5 (v49 : BitVec 32) : Fin 2 → Nat :=
  let v51 : Index := Scalar.indexCast v49
  let c0_31 : Index := 0#32
  ![v51.toNat, 0]

def k1_chk2 (v49 : BitVec 32) : Prop :=
  (∀ a, (k1_off5 v49) a + S1x128.size a ≤ S32768x128.size a)
theorem k1_off5_inb : ∀ (v49 : BitVec 32) (k1_hw2 : k1_chk2 v49), ∀ a, (k1_off5 v49) a + S1x128.size a ≤ S32768x128.size a := fun v49 k1_hw2 => k1_hw2

def k1_off6 (k1_t1 : Fin k1_t1_loop.trips) : Fin 3 → Nat :=
  let c0_33 : Index := 0#32
  let c0_34 : Index := 0#32
  let c0_i32_19 : BitVec 32 := 0#32
  let c1_i32 : BitVec 32 := 1#32
  let arg15 : BitVec 32 := Scf.iv c0_i32_19 c1_i32 k1_t1
  let c8_i32 : BitVec 32 := 8#32
  let v33 : BitVec 32 := Scalar.muli arg15 c8_i32
  let c2_i32 : BitVec 32 := 2#32
  let v58 : BitVec 32 := Scalar.addi v33 c2_i32
  let v59 : Index := Scalar.indexCast v58
  ![0, 0, v59.toNat]
def k1_off7 (v60 : BitVec 32) : Fin 2 → Nat :=
  let v62 : Index := Scalar.indexCast v60
  let c0_35 : Index := 0#32
  ![v62.toNat, 0]

def k1_chk3 (v60 : BitVec 32) : Prop :=
  (∀ a, (k1_off7 v60) a + S1x128.size a ≤ S32768x128.size a)
theorem k1_off7_inb : ∀ (v60 : BitVec 32) (k1_hw3 : k1_chk3 v60), ∀ a, (k1_off7 v60) a + S1x128.size a ≤ S32768x128.size a := fun v60 k1_hw3 => k1_hw3

def k1_off8 (k1_t1 : Fin k1_t1_loop.trips) : Fin 3 → Nat :=
  let c0_37 : Index := 0#32
  let c0_38 : Index := 0#32
  let c0_i32_19 : BitVec 32 := 0#32
  let c1_i32 : BitVec 32 := 1#32
  let arg15 : BitVec 32 := Scf.iv c0_i32_19 c1_i32 k1_t1
  let c8_i32 : BitVec 32 := 8#32
  let v33 : BitVec 32 := Scalar.muli arg15 c8_i32
  let c3_i32 : BitVec 32 := 3#32
  let v69 : BitVec 32 := Scalar.addi v33 c3_i32
  let v70 : Index := Scalar.indexCast v69
  ![0, 0, v70.toNat]
def k1_off9 (v71 : BitVec 32) : Fin 2 → Nat :=
  let v73 : Index := Scalar.indexCast v71
  let c0_39 : Index := 0#32
  ![v73.toNat, 0]

def k1_chk4 (v71 : BitVec 32) : Prop :=
  (∀ a, (k1_off9 v71) a + S1x128.size a ≤ S32768x128.size a)
theorem k1_off9_inb : ∀ (v71 : BitVec 32) (k1_hw4 : k1_chk4 v71), ∀ a, (k1_off9 v71) a + S1x128.size a ≤ S32768x128.size a := fun v71 k1_hw4 => k1_hw4

def k1_off10 (k1_t1 : Fin k1_t1_loop.trips) : Fin 3 → Nat :=
  let c0_41 : Index := 0#32
  let c0_42 : Index := 0#32
  let c0_i32_19 : BitVec 32 := 0#32
  let c1_i32 : BitVec 32 := 1#32
  let arg15 : BitVec 32 := Scf.iv c0_i32_19 c1_i32 k1_t1
  let c8_i32 : BitVec 32 := 8#32
  let v33 : BitVec 32 := Scalar.muli arg15 c8_i32
  let c4_i32 : BitVec 32 := 4#32
  let v80 : BitVec 32 := Scalar.addi v33 c4_i32
  let v81 : Index := Scalar.indexCast v80
  ![0, 0, v81.toNat]
def k1_off11 (v82 : BitVec 32) : Fin 2 → Nat :=
  let v84 : Index := Scalar.indexCast v82
  let c0_43 : Index := 0#32
  ![v84.toNat, 0]

def k1_chk5 (v82 : BitVec 32) : Prop :=
  (∀ a, (k1_off11 v82) a + S1x128.size a ≤ S32768x128.size a)
theorem k1_off11_inb : ∀ (v82 : BitVec 32) (k1_hw5 : k1_chk5 v82), ∀ a, (k1_off11 v82) a + S1x128.size a ≤ S32768x128.size a := fun v82 k1_hw5 => k1_hw5

def k1_off12 (k1_t1 : Fin k1_t1_loop.trips) : Fin 3 → Nat :=
  let c0_45 : Index := 0#32
  let c0_46 : Index := 0#32
  let c0_i32_19 : BitVec 32 := 0#32
  let c1_i32 : BitVec 32 := 1#32
  let arg15 : BitVec 32 := Scf.iv c0_i32_19 c1_i32 k1_t1
  let c8_i32 : BitVec 32 := 8#32
  let v33 : BitVec 32 := Scalar.muli arg15 c8_i32
  let c5_i32 : BitVec 32 := 5#32
  let v91 : BitVec 32 := Scalar.addi v33 c5_i32
  let v92 : Index := Scalar.indexCast v91
  ![0, 0, v92.toNat]
def k1_off13 (v93 : BitVec 32) : Fin 2 → Nat :=
  let v95 : Index := Scalar.indexCast v93
  let c0_47 : Index := 0#32
  ![v95.toNat, 0]

def k1_chk6 (v93 : BitVec 32) : Prop :=
  (∀ a, (k1_off13 v93) a + S1x128.size a ≤ S32768x128.size a)
theorem k1_off13_inb : ∀ (v93 : BitVec 32) (k1_hw6 : k1_chk6 v93), ∀ a, (k1_off13 v93) a + S1x128.size a ≤ S32768x128.size a := fun v93 k1_hw6 => k1_hw6

def k1_off14 (k1_t1 : Fin k1_t1_loop.trips) : Fin 3 → Nat :=
  let c0_49 : Index := 0#32
  let c0_50 : Index := 0#32
  let c0_i32_19 : BitVec 32 := 0#32
  let c1_i32 : BitVec 32 := 1#32
  let arg15 : BitVec 32 := Scf.iv c0_i32_19 c1_i32 k1_t1
  let c8_i32 : BitVec 32 := 8#32
  let v33 : BitVec 32 := Scalar.muli arg15 c8_i32
  let c6_i32 : BitVec 32 := 6#32
  let v102 : BitVec 32 := Scalar.addi v33 c6_i32
  let v103 : Index := Scalar.indexCast v102
  ![0, 0, v103.toNat]
def k1_off15 (v104 : BitVec 32) : Fin 2 → Nat :=
  let v106 : Index := Scalar.indexCast v104
  let c0_51 : Index := 0#32
  ![v106.toNat, 0]

def k1_chk7 (v104 : BitVec 32) : Prop :=
  (∀ a, (k1_off15 v104) a + S1x128.size a ≤ S32768x128.size a)
theorem k1_off15_inb : ∀ (v104 : BitVec 32) (k1_hw7 : k1_chk7 v104), ∀ a, (k1_off15 v104) a + S1x128.size a ≤ S32768x128.size a := fun v104 k1_hw7 => k1_hw7

def k1_off16 (k1_t1 : Fin k1_t1_loop.trips) : Fin 3 → Nat :=
  let c0_53 : Index := 0#32
  let c0_54 : Index := 0#32
  let c0_i32_19 : BitVec 32 := 0#32
  let c1_i32 : BitVec 32 := 1#32
  let arg15 : BitVec 32 := Scf.iv c0_i32_19 c1_i32 k1_t1
  let c8_i32 : BitVec 32 := 8#32
  let v33 : BitVec 32 := Scalar.muli arg15 c8_i32
  let c7_i32 : BitVec 32 := 7#32
  let v113 : BitVec 32 := Scalar.addi v33 c7_i32
  let v114 : Index := Scalar.indexCast v113
  ![0, 0, v114.toNat]
def k1_off17 (v115 : BitVec 32) : Fin 2 → Nat :=
  let v117 : Index := Scalar.indexCast v115
  let c0_55 : Index := 0#32
  ![v117.toNat, 0]

def k1_chk8 (v115 : BitVec 32) : Prop :=
  (∀ a, (k1_off17 v115) a + S1x128.size a ≤ S32768x128.size a)
theorem k1_off17_inb : ∀ (v115 : BitVec 32) (k1_hw8 : k1_chk8 v115), ∀ a, (k1_off17 v115) a + S1x128.size a ≤ S32768x128.size a := fun v115 k1_hw8 => k1_hw8

def k1_cond2 (i : grid1.Coords) : BitVec 1 :=
  let arg1 : BitVec 32 := BitVec.ofNat 32 (i 1).val
  let c15_i32 : BitVec 32 := 15#32
  let v30 : BitVec 1 := Scalar.cmpi .eq arg1 c15_i32
  let v31 : BitVec 32 := Scalar.extui v30
  let c0_i32_21 : BitVec 32 := 0#32
  let v32 : BitVec 1 := Scalar.cmpi .ne v31 c0_i32_21
  v32

def k1_off18 (i : grid1.Coords) : Fin 3 → Nat :=
  let arg0 : BitVec 32 := BitVec.ofNat 32 (i 0).val
  let c0_i32_32 : BitVec 32 := 0#32
  let c0_i32_33 : BitVec 32 := 0#32
  ![arg0.toNat, 0, 0]
def cc1_transform_0 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .smem S1x1x4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x3x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S131x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]
-- ==== ReferenceIdeal.lean ====
abbrev S4x3x65536 : Shape := ⟨3, ![4, 3, 65536]⟩
abbrev S4x128x65536 : Shape := ⟨3, ![4, 128, 65536]⟩
abbrev S131x128 : Shape := ⟨2, ![131, 128]⟩
abbrev S128 : Shape := ⟨1, ![128]⟩
abbrev S3 : Shape := ⟨1, ![3]⟩
abbrev S4x65536x3 : Shape := ⟨3, ![4, 65536, 3]⟩
abbrev S1x1x3 : Shape := ⟨3, ![1, 1, 3]⟩
abbrev S_ : Shape := ⟨0, ![]⟩
abbrev S4x65536x1 : Shape := ⟨3, ![4, 65536, 1]⟩
abbrev S4x65536 : Shape := ⟨2, ![4, 65536]⟩
abbrev S4x131x65536 : Shape := ⟨3, ![4, 131, 65536]⟩
abbrev S4x65536x131 : Shape := ⟨3, ![4, 65536, 131]⟩
abbrev S4x65536x128 : Shape := ⟨3, ![4, 65536, 128]⟩
abbrev S1x1x128 : Shape := ⟨3, ![1, 1, 128]⟩
abbrev S4x1x65536x1 : Shape := ⟨4, ![4, 1, 65536, 1]⟩
abbrev S32768 : Shape := ⟨1, ![32768]⟩
abbrev S1x32768x1x1 : Shape := ⟨4, ![1, 32768, 1, 1]⟩
abbrev S4x32768x65536x1 : Shape := ⟨4, ![4, 32768, 65536, 1]⟩
abbrev S4x1x65536x128 : Shape := ⟨4, ![4, 1, 65536, 128]⟩
abbrev S4x32768x65536x128 : Shape := ⟨4, ![4, 32768, 65536, 128]⟩
abbrev S4x32768x128 : Shape := ⟨3, ![4, 32768, 128]⟩
abbrev S4x128x32768 : Shape := ⟨3, ![4, 128, 32768]⟩
abbrev S4x128x32x32x32 : Shape := ⟨5, ![4, 128, 32, 32, 32]⟩

abbrev nBuf : Space → Nat
  | .hbm => 119
  | .vmem => 0
  | .smem => 0
  | _ => 0

abbrev bufTy : (tb : Table) → Fin (tcTables nBuf tb) → BufTy
  | .hbm, ⟨0, _⟩ => ⟨S4x3x65536, .f32⟩
  | .hbm, ⟨1, _⟩ => ⟨S4x128x65536, .f32⟩
  | .hbm, ⟨2, _⟩ => ⟨S131x128, .f32⟩
  | .hbm, ⟨3, _⟩ => ⟨S128, .f32⟩
  | .hbm, ⟨4, _⟩ => ⟨S3, .f32⟩
  | .hbm, ⟨5, _⟩ => ⟨S3, .f32⟩
  | .hbm, ⟨6, _⟩ => ⟨S3, .f32⟩
  | .hbm, ⟨7, _⟩ => ⟨S3, .i32⟩
  | .hbm, ⟨8, _⟩ => ⟨S4x65536x3, .f32⟩
  | .hbm, ⟨9, _⟩ => ⟨S1x1x3, .f32⟩
  | .hbm, ⟨10, _⟩ => ⟨S4x65536x3, .f32⟩
  | .hbm, ⟨11, _⟩ => ⟨S4x65536x3, .f32⟩
  | .hbm, ⟨12, _⟩ => ⟨S3, .f32⟩
  | .hbm, ⟨13, _⟩ => ⟨S1x1x3, .f32⟩
  | .hbm, ⟨14, _⟩ => ⟨S4x65536x3, .f32⟩
  | .hbm, ⟨15, _⟩ => ⟨S4x65536x3, .f32⟩
  | .hbm, ⟨16, _⟩ => ⟨S_, .f32⟩
  | .hbm, ⟨17, _⟩ => ⟨S3, .f32⟩
  | .hbm, ⟨18, _⟩ => ⟨S3, .f32⟩
  | .hbm, ⟨19, _⟩ => ⟨S1x1x3, .f32⟩
  | .hbm, ⟨20, _⟩ => ⟨S4x65536x3, .f32⟩
  | .hbm, ⟨21, _⟩ => ⟨S4x65536x3, .f32⟩
  | .hbm, ⟨22, _⟩ => ⟨S4x65536x3, .f32⟩
  | .hbm, ⟨23, _⟩ => ⟨S4x65536x3, .i32⟩
  | .hbm, ⟨24, _⟩ => ⟨S_, .i32⟩
  | .hbm, ⟨25, _⟩ => ⟨S3, .i32⟩
  | .hbm, ⟨26, _⟩ => ⟨S3, .i32⟩
  | .hbm, ⟨27, _⟩ => ⟨S_, .i32⟩
  | .hbm, ⟨28, _⟩ => ⟨S_, .i32⟩
  | .hbm, ⟨29, _⟩ => ⟨S4x65536x3, .i32⟩
  | .hbm, ⟨30, _⟩ => ⟨S4x65536x3, .i32⟩
  | .hbm, ⟨31, _⟩ => ⟨S1x1x3, .i32⟩
  | .hbm, ⟨32, _⟩ => ⟨S4x65536x3, .i32⟩
  | .hbm, ⟨33, _⟩ => ⟨S4x65536x3, .i32⟩
  | .hbm, ⟨34, _⟩ => ⟨S4x65536x1, .i32⟩
  | .hbm, ⟨35, _⟩ => ⟨S4x65536, .i32⟩
  | .hbm, ⟨36, _⟩ => ⟨S_, .i32⟩
  | .hbm, ⟨37, _⟩ => ⟨S4x65536, .i32⟩
  | .hbm, ⟨38, _⟩ => ⟨S4x65536, .i32⟩
  | .hbm, ⟨39, _⟩ => ⟨S4x65536x1, .i32⟩
  | .hbm, ⟨40, _⟩ => ⟨S4x65536, .i32⟩
  | .hbm, ⟨41, _⟩ => ⟨S_, .i32⟩
  | .hbm, ⟨42, _⟩ => ⟨S4x65536, .i32⟩
  | .hbm, ⟨43, _⟩ => ⟨S4x65536, .i32⟩
  | .hbm, ⟨44, _⟩ => ⟨S4x65536, .i32⟩
  | .hbm, ⟨45, _⟩ => ⟨S4x65536x1, .i32⟩
  | .hbm, ⟨46, _⟩ => ⟨S4x65536, .i32⟩
  | .hbm, ⟨47, _⟩ => ⟨S4x65536, .i32⟩
  | .hbm, ⟨48, _⟩ => ⟨S4x131x65536, .f32⟩
  | .hbm, ⟨49, _⟩ => ⟨S4x65536x131, .f32⟩
  | .hbm, ⟨50, _⟩ => ⟨S4x65536x128, .f32⟩
  | .hbm, ⟨51, _⟩ => ⟨S1x1x128, .f32⟩
  | .hbm, ⟨52, _⟩ => ⟨S4x65536x128, .f32⟩
  | .hbm, ⟨53, _⟩ => ⟨S4x65536x128, .f32⟩
  | .hbm, ⟨54, _⟩ => ⟨S_, .f32⟩
  | .hbm, ⟨55, _⟩ => ⟨S4x65536x128, .f32⟩
  | .hbm, ⟨56, _⟩ => ⟨S4x65536x128, .f32⟩
  | .hbm, ⟨57, _⟩ => ⟨S_, .f32⟩
  | .hbm, ⟨58, _⟩ => ⟨S128, .f32⟩
  | .hbm, ⟨59, _⟩ => ⟨S1x1x128, .f32⟩
  | .hbm, ⟨60, _⟩ => ⟨S_, .f32⟩
  | .hbm, ⟨61, _⟩ => ⟨S1x1x128, .f32⟩
  | .hbm, ⟨62, _⟩ => ⟨S1x1x128, .f32⟩
  | .hbm, ⟨63, _⟩ => ⟨S_, .i32⟩
  | .hbm, ⟨64, _⟩ => ⟨S_, .f32⟩
  | .hbm, ⟨65, _⟩ => ⟨S128, .f32⟩
  | .hbm, ⟨66, _⟩ => ⟨S1x1x128, .f32⟩
  | .hbm, ⟨67, _⟩ => ⟨S_, .f32⟩
  | .hbm, ⟨68, _⟩ => ⟨S1x1x128, .f32⟩
  | .hbm, ⟨69, _⟩ => ⟨S1x1x128, .f32⟩
  | .hbm, ⟨70, _⟩ => ⟨S4x65536x128, .f32⟩
  | .hbm, ⟨71, _⟩ => ⟨S4x65536x128, .f32⟩
  | .hbm, ⟨72, _⟩ => ⟨S4x65536x128, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S128, .f32⟩
  | .hbm, ⟨78, _⟩ => ⟨S1x1x128, .f32⟩
  | .hbm, ⟨79, _⟩ => ⟨S1x1x128, .f32⟩
  | .hbm, ⟨80, _⟩ => ⟨S1x1x128, .f32⟩
  | .hbm, ⟨81, _⟩ => ⟨S_, .f32⟩
  | .hbm, ⟨82, _⟩ => ⟨S_, .i1⟩
  | .hbm, ⟨83, _⟩ => ⟨S_, .f32⟩
  | .hbm, ⟨84, _⟩ => ⟨S_, .f32⟩
  | .hbm, ⟨85, _⟩ => ⟨S1x1x128, .f32⟩
  | .hbm, ⟨86, _⟩ => ⟨S1x1x128, .f32⟩
  | .hbm, ⟨87, _⟩ => ⟨S4x65536x128, .f32⟩
  | .hbm, ⟨88, _⟩ => ⟨S4x65536x128, .f32⟩
  | .hbm, ⟨89, _⟩ => ⟨S_, .f32⟩
  | .hbm, ⟨90, _⟩ => ⟨S1x1x128, .f32⟩
  | .hbm, ⟨91, _⟩ => ⟨S1x1x128, .f32⟩
  | .hbm, ⟨92, _⟩ => ⟨S1x1x128, .f32⟩
  | .hbm, ⟨93, _⟩ => ⟨S4x65536x128, .f32⟩
  | .hbm, ⟨94, _⟩ => ⟨S4x65536x128, .f32⟩
  | .hbm, ⟨95, _⟩ => ⟨S4x1x65536x1, .i32⟩
  | .hbm, ⟨96, _⟩ => ⟨S32768, .i32⟩
  | .hbm, ⟨97, _⟩ => ⟨S1x32768x1x1, .i32⟩
  | .hbm, ⟨98, _⟩ => ⟨S4x32768x65536x1, .i32⟩
  | .hbm, ⟨99, _⟩ => ⟨S4x32768x65536x1, .i32⟩
  | .hbm, ⟨100, _⟩ => ⟨S4x32768x65536x1, .i1⟩
  | .hbm, ⟨101, _⟩ => ⟨S4x1x65536x128, .f32⟩
  | .hbm, ⟨102, _⟩ => ⟨S_, .f32⟩
  | .hbm, ⟨103, _⟩ => ⟨S_, .f32⟩
  | .hbm, ⟨104, _⟩ => ⟨S4x32768x65536x128, .i1⟩
  | .hbm, ⟨105, _⟩ => ⟨S4x32768x65536x128, .f32⟩
  | .hbm, ⟨106, _⟩ => ⟨S4x32768x65536x128, .f32⟩
  | .hbm, ⟨107, _⟩ => ⟨S4x32768x65536x128, .f32⟩
  | .hbm, ⟨108, _⟩ => ⟨S_, .f32⟩
  | .hbm, ⟨109, _⟩ => ⟨S4x32768x128, .f32⟩
  | .hbm, ⟨110, _⟩ => ⟨S_, .f32⟩
  | .hbm, ⟨111, _⟩ => ⟨S4x32768x128, .f32⟩
  | .hbm, ⟨112, _⟩ => ⟨S4x32768x128, .i1⟩
  | .hbm, ⟨113, _⟩ => ⟨S_, .f32⟩
  | .hbm, ⟨114, _⟩ => ⟨S_, .f32⟩
  | .hbm, ⟨115, _⟩ => ⟨S4x32768x128, .f32⟩
  | .hbm, ⟨116, _⟩ => ⟨S4x32768x128, .f32⟩
  | .hbm, ⟨117, _⟩ => ⟨S4x128x32768, .f32⟩
  | .hbm, ⟨118, _⟩ => ⟨S4x128x32x32x32, .f32⟩
  | _, _ => ⟨S4x3x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call2_cst : Ref sig .tc := ⟨.hbm, 54, rfl⟩
abbrev main_call2_v0 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_c_9 : Ref sig .tc := ⟨.hbm, 63, rfl⟩
abbrev main_call3_cst : Ref sig .tc := ⟨.hbm, 64, rfl⟩
abbrev main_call3_v0 : Ref sig .tc := ⟨.hbm, 65, rfl⟩
abbrev main_call3_v1 : Ref sig .tc := ⟨.hbm, 66, rfl⟩
abbrev main_call3_cst_0 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_call3_v5 : Ref sig .tc := ⟨.hbm, 71, rfl⟩
abbrev main_call3_v6 : Ref sig .tc := ⟨.hbm, 72, rfl⟩
abbrev main_call3_v7 : Ref sig .tc := ⟨.hbm, 73, rfl⟩
abbrev main_call3_cst_1 : Ref sig .tc := ⟨.hbm, 74, rfl⟩
abbrev main_call3_v8 : Ref sig .tc := ⟨.hbm, 75, rfl⟩
abbrev main_call3_cst_2 : Ref sig .tc := ⟨.hbm, 76, rfl⟩
abbrev main_call3_v9 : Ref sig .tc := ⟨.hbm, 77, rfl⟩
abbrev main_call3_v10 : Ref sig .tc := ⟨.hbm, 78, rfl⟩
abbrev main_call3_v11 : Ref sig .tc := ⟨.hbm, 79, rfl⟩
abbrev main_call3_v12 : Ref sig .tc := ⟨.hbm, 80, rfl⟩
abbrev main_call3_cst_3 : Ref sig .tc := ⟨.hbm, 81, rfl⟩
abbrev main_call3_v13 : Ref sig .tc := ⟨.hbm, 82, rfl⟩
abbrev main_call3_cst_4 : Ref sig .tc := ⟨.hbm, 83, rfl⟩
abbrev main_call3_call0_v0 : Ref sig .tc := ⟨.hbm, 84, rfl⟩
abbrev main_call3_call0_v1 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_cst_10 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_cst_11 : Ref sig .tc := ⟨.hbm, 102, rfl⟩
abbrev main_call4_v0 : Ref sig .tc := ⟨.hbm, 103, rfl⟩
abbrev main_call4_v1 : Ref sig .tc := ⟨.hbm, 104, rfl⟩
abbrev main_call4_v2 : Ref sig .tc := ⟨.hbm, 105, rfl⟩
abbrev main_call4_v3 : Ref sig .tc := ⟨.hbm, 106, rfl⟩
abbrev main_v56 : Ref sig .tc := ⟨.hbm, 107, rfl⟩
abbrev main_cst_12 : Ref sig .tc := ⟨.hbm, 108, rfl⟩
abbrev main_v57 : Ref sig .tc := ⟨.hbm, 109, rfl⟩
abbrev main_cst_13 : Ref sig .tc := ⟨.hbm, 110, rfl⟩
abbrev main_v58 : Ref sig .tc := ⟨.hbm, 111, rfl⟩
abbrev main_v59 : Ref sig .tc := ⟨.hbm, 112, rfl⟩
abbrev main_cst_14 : Ref sig .tc := ⟨.hbm, 113, rfl⟩
abbrev main_call5_v0 : Ref sig .tc := ⟨.hbm, 114, rfl⟩
abbrev main_call5_v1 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩

abbrev nD : Nat := 1
abbrev τ : Topo := Topo.v7x

variable {F : FTy → Type} [FloatOps F]
-- ==== Proof.Body0.lean ====
/- One point of the statistics kernel: what its body leaves in the two accumulated rows. -/
module

public import proofs.«01_k».proof.Proof.Gen.KernelIdeal.Skeleton
public import proofs.«01_k».proof.Proof.Gen.KernelIdeal.Points
public import Idealize.ShloMosaic.Lib.Exec
public import Idealize.ShloMosaic.Lib.Tactic
public import Idealize.ShloMosaic.Lib.Pipeline.Kit
public import Idealize.ShloMosaic.Lib.WritesUnit
public import Idealize.ShloMosaic.Lib.VecWindow
public import Idealize.ShloMosaic.Lib.Pipeline.FrameBody
public import Idealize.ShloMosaic.Lib.Pipeline.Value
public import Idealize.ShloMosaic.Lib.PointwiseCore
public import Idealize.ShloMosaic.Lib.Pipeline.ReadBack

@[expose] public section

set_option maxRecDepth 16384

noncomputable section

namespace Cert.KernelIdeal.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The point is the first of the grid. -/
abbrev First (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

/-- The weights of the three coordinates. -/
abbrev wXyz (x2 : Vec F S131x128 .f32) : Vec F S3x128 .f32 := View.ld (Val := Elt F) (e' := .f32) x2 (Rect.unit (s := S131x128) ![0, 0] S3x128.size inb_S131x128_S3x128_0_0)

/-- The weights of the 128 features. -/
abbrev wPf (x2 : Vec F S131x128 .f32) : Vec F S128x128 .f32 := View.ld (Val := Elt F) (e' := .f32) x2 (Rect.unit (s := S131x128) ![3, 0] S128x128.size inb_S131x128_S128x128_3_0)

/-- The first row after a point: what it held and the block's column sums. -/
def sum0 (x0 : Vec F S1x3x8192 .f32) (x1 : Vec F S1x128x8192 .f32) (x2 : Vec F S131x128 .f32) (x3 : Vec F S1x128 .f32) (A : Vec F S2x128 .f32) : Vec F S1x128 .f32 :=
  k0_pay4 x0 x1 (wXyz x2) (wPf x2) x3 (View.ld (Val := Elt F) (e' := .f32) A (Rect.unit (s := S2x128) ![0, 0] S1x128.size inb_S2x128_S1x128_0_0))

/-- The second row after a point: what it held and the column sums of the block's squares. -/
def sum1 (x0 : Vec F S1x3x8192 .f32) (x1 : Vec F S1x128x8192 .f32) (x2 : Vec F S131x128 .f32) (x3 : Vec F S1x128 .f32) (A : Vec F S2x128 .f32) : Vec F S1x128 .f32 :=
  k0_pay1 (k0_pay5 (View.ld (Val := Elt F) (e' := .f32) A (Rect.unit (s := S2x128) ![1, 0] S1x128.size inb_S2x128_S1x128_1_0))) (k0_pay6 x0 x1 (wXyz x2) (wPf x2) x3)

/-- The two rows after a point. -/
def step (x0 : Vec F S1x3x8192 .f32) (x1 : Vec F S1x128x8192 .f32) (x2 : Vec F S131x128 .f32) (x3 : Vec F S1x128 .f32) (A : Vec F S2x128 .f32) : Vec F S2x128 .f32 :=
  fun y => if (y 0).val = 0 then sum0 x0 x1 x2 x3 A (ix2 0 (y 1)) else sum1 x0 x1 x2 x3 A (ix2 0 (y 1))

/-- After a store of each row the buffer holds the two rows. -/
theorem two_rows {sig : RefSig} {κ : Kind} {sp : Space} (v : View sig κ sp S2x128 .f32) (f : v.ty.Contents (Elt F)) (L : List (View.Piece (Elt F) S2x128 .f32))
    (inb1 : ∀ a, (![1, 0] : Fin 2 → ℕ) a + S1x128.size a ≤ S2x128.size a) (inb0 : ∀ a, (![0, 0] : Fin 2 → ℕ) a + S1x128.size a ≤ S2x128.size a)
    (p1 p0 q1 q0 : S1x128.Idx → Elt F .f32) (h1 : p1 = q1) (h0 : p0 = q0) :
    v.read (Elt F) (v.writes (Elt F) f ((⟨Rect.unit (s := S2x128) ![1, 0] S1x128.size inb1, p1⟩ : View.Piece (Elt F) S2x128 .f32) :: (⟨Rect.unit (s := S2x128) ![0, 0] S1x128.size inb0, p0⟩ : View.Piece (Elt F) S2x128 .f32) :: L))
      = fun y => if (y 0).val = 0 then q0 (ix2 0 (y 1)) else q1 (ix2 0 (y 1)) := by
  subst h1 h0
  funext y
  have hy : (y 0).val < 2 := (y 0).isLt
  by_cases h : (y 0).val = 0
  · rw [if_pos h]
    refine (View.read_writes_cons_unit_of_not_mem v f inb1 p1 _ y rfl 0 (by show (y 0).val < 1 ∨ _; omega)).trans ?_
    refine View.read_writes_cons_unit_of_mem v f inb0 p0 L y (ix2 0 (y 1)) rfl ?_
    intro a
    match a with
    | ⟨0, _⟩ => show (y 0).val = 0 + 0; omega
    | ⟨1, _⟩ => show (y 1).val = 0 + (y 1).val; omega
  · rw [if_neg h]
    refine View.read_writes_cons_unit_of_mem v f inb1 p1 _ y (ix2 0 (y 1)) rfl ?_
    intro a
    match a with
    | ⟨0, _⟩ => show (y 0).val = 1 + 0; omega
    | ⟨1, _⟩ => show (y 1).val = 0 + (y 1).val; omega

/-- A load of a whole memref's rectangle reads the contents it was given. -/
theorem load_eq {sp : Space} {s : Shape} {e : EltTy} (M : Memref sig .tc sp s e) (h : M.IsWhole) (x : Vec F s e) (r : Rect s) :
    M.view.readAt (Elt F) r.toLoadRect (h.unread x) = View.ld x r := by
  rw [View.readAt_eq_ld, h.read_unread]

/-- After the zeroing and a store of the first row, the second row is still the zeroed one. -/
theorem load_row1 {sig : RefSig} {κ : Kind} {sp : Space} (v : View sig κ sp S2x128 .f32) (L : List (View.Piece (Elt F) S2x128 .f32))
    (inb1 : ∀ a, (![1, 0] : Fin 2 → ℕ) a + S1x128.size a ≤ S2x128.size a) (inb0 : ∀ a, (![0, 0] : Fin 2 → ℕ) a + S1x128.size a ≤ S2x128.size a)
    (inb : ∀ a, (![0, 0] : Fin 2 → ℕ) a + S2x128.size a ≤ S2x128.size a) (w : S1x128.Idx → Elt F .f32) (Z : S2x128.Idx → Elt F .f32) :
    v.readCov ((⟨Rect.unit (s := S2x128) ![0, 0] S1x128.size inb0, w⟩ : View.Piece (Elt F) S2x128 .f32) :: (⟨Rect.unit (s := S2x128) ![0, 0] S2x128.size inb, Z⟩ : View.Piece (Elt F) S2x128 .f32) :: L)
        (Rect.unit (s := S2x128) ![1, 0] S1x128.size inb1).toLoadRect
      = View.ld Z (Rect.unit (s := S2x128) ![1, 0] S1x128.size inb1) := by
  rw [View.readCov_skip _ _ _ _ _ (by simp [LoadRect.disj])]
  exact View.readCov_fill v inb Z L _ (by decide)

/-- After the zeroing the first row is the zeroed one. -/
theorem load_row0 {sig : RefSig} {κ : Kind} {sp : Space} (v : View sig κ sp S2x128 .f32) (L : List (View.Piece (Elt F) S2x128 .f32))
    (inb0 : ∀ a, (![0, 0] : Fin 2 → ℕ) a + S1x128.size a ≤ S2x128.size a)
    (inb : ∀ a, (![0, 0] : Fin 2 → ℕ) a + S2x128.size a ≤ S2x128.size a) (Z : S2x128.Idx → Elt F .f32) :
    v.readCov ((⟨Rect.unit (s := S2x128) ![0, 0] S2x128.size inb, Z⟩ : View.Piece (Elt F) S2x128 .f32) :: L)
        (Rect.unit (s := S2x128) ![0, 0] S1x128.size inb0).toLoadRect
      = View.ld Z (Rect.unit (s := S2x128) ![0, 0] S1x128.size inb0) :=
  View.readCov_fill v inb Z L _ (by decide)

section Body

variable (c : Dev nD) (i : grid0.Coords) (arg2 : Memref sig .tc .vmem S1x3x8192 .f32) (harg2 : arg2.IsWhole) (arg3 : Memref sig .tc .vmem S1x128x8192 .f32) (harg3 : arg3.IsWhole) (arg4 : Memref sig .tc .vmem S131x128 .f32) (harg4 : arg4.IsWhole) (arg5 : Memref sig .tc .vmem S1x128 .f32) (harg5 : arg5.IsWhole) (arg6 : Memref sig .tc .vmem S2x128 .f32) (harg6 : arg6.IsWhole) (x0 : Vec F S1x3x8192 .f32) (x1 : Vec F S1x128x8192 .f32) (x2 : Vec F S131x128 .f32) (x3 : Vec F S1x128 .f32)

set_option maxHeartbeats 4000000 in
/-- A later point: the block's sums are added to the two rows. -/
theorem body_next (hc0 : ¬ First i) (A : Vec F S2x128 .f32) (W : Waits sig Unit) (K : PUnit → sProp 𝕄) :
    iprop((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare A ∗ owes (c : Thread nD τ) 0 W)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (step x0 x1 x2 x3 A) ∗ ∃ W', owes (c : Thread nD τ) 0 W') -∗ K ⟨⟩))
    ⊢ wp frame (wpE (defs₀ (F := F)) Variants.none c none) Set.univ (cc0__stats_body i arg2 harg2 arg3 harg3 arg4 harg4 arg5 harg5 arg6 harg6) K := by
  simp only [cc0__stats_body_eq_skeleton]; unfold cc0__stats_body_skel
  simp only [k0_part1_eq_skeleton]
  unfold owns
  iintro ⟨⟨⟨%f0, %hf0, H0⟩, ⟨%f1, %hf1, H1⟩, ⟨%f2, %hf2, H2⟩, ⟨%f3, %hf3, H3⟩, ⟨%g, %hg, G⟩, HW⟩, Hk⟩
  obtain rfl := harg2.eq_unread hf0; obtain rfl := harg3.eq_unread hf1; obtain rfl := harg4.eq_unread hf2; obtain rfl := harg5.eq_unread hf3
  obtain rfl := harg6.eq_unread hg
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [G]
  · iexists _; isplitr; swap; · iexact G
    ipureintro
    sl_unfold_words
    refine two_rows _ _ _ _ _ _ _ _ _ ?_ ?_
    · rw [View.readAt_full arg2.view, View.readAt_full arg3.view, View.readAt_full arg5.view, harg2.read_unread, harg3.read_unread, harg5.read_unread, load_eq arg4 harg4, load_eq arg4 harg4, load_eq arg6 harg6]
      rfl
    · rw [View.readAt_full arg2.view, View.readAt_full arg3.view, View.readAt_full arg5.view, harg2.read_unread, harg3.read_unread, harg5.read_unread, load_eq arg4 harg4, load_eq arg4 harg4, load_eq arg6 harg6]
      rfl
  iexists _; iexact HW

set_option maxHeartbeats 4000000 in
/-- The first point: the two rows are zeroed and the block's sums added. -/
theorem body_first (hc0 : First i) (A : Vec F S2x128 .f32) (W : Waits sig Unit) (K : PUnit → sProp 𝕄) :
    iprop((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare A ∗ owes (c : Thread nD τ) 0 W)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (step x0 x1 x2 x3 k0_pay2) ∗ ∃ W', owes (c : Thread nD τ) 0 W') -∗ K ⟨⟩))
    ⊢ wp frame (wpE (defs₀ (F := F)) Variants.none c none) Set.univ (cc0__stats_body i arg2 harg2 arg3 harg3 arg4 harg4 arg5 harg5 arg6 harg6) K := by
  simp only [cc0__stats_body_eq_skeleton]; unfold cc0__stats_body_skel
  simp only [k0_part1_eq_skeleton]
  unfold owns
  iintro ⟨⟨⟨%f0, %hf0, H0⟩, ⟨%f1, %hf1, H1⟩, ⟨%f2, %hf2, H2⟩, ⟨%f3, %hf3, H3⟩, ⟨%g, %hg, G⟩, HW⟩, Hk⟩
  obtain rfl := harg2.eq_unread hf0; obtain rfl := harg3.eq_unread hf1; obtain rfl := harg4.eq_unread hf2; obtain rfl := harg5.eq_unread hf3
  obtain rfl := harg6.eq_unread hg
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [G]
  · iexists _; isplitr; swap; · iexact G
    ipureintro
    sl_unfold_words
    refine two_rows _ _ _ _ _ _ _ _ _ ?_ ?_
    · rw [View.readAt_full arg2.view, View.readAt_full arg3.view, View.readAt_full arg5.view, harg2.read_unread, harg3.read_unread, harg5.read_unread, load_eq arg4 harg4, load_eq arg4 harg4, load_row1]
      rfl
    · rw [View.readAt_full arg2.view, View.readAt_full arg3.view, View.readAt_full arg5.view, harg2.read_unread, harg3.read_unread, harg5.read_unread, load_eq arg4 harg4, load_eq arg4 harg4, load_row0]
      rfl
  iexists _; iexact HW

end Body

end Cert.KernelIdeal.Stats

end
-- ==== Proof.Region0.lean ====
/- The statistics kernel over its grid: the two accumulated rows point by point, and what they are at the end. -/
module

public import proofs.«01_k».proof.Proof.Body0
public import proofs.«01_k».proof.Proof.Gen.KernelIdeal.Launch
public import Idealize.ShloMosaic.Lib.Pipeline.RegionArraysS
public import Idealize.ShloMosaic.Lib.Claim
public import Idealize.ShloMosaic.Lib.WordCmp

@[expose] public section

set_option maxRecDepth 16384

noncomputable section

namespace Cert.KernelIdeal.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (V : Dev nD → Valuation τ sig (Elt F))

/-- Point `n` of the grid. -/
def pt (n : ℕ) : Fin cfg0.N := ⟨n % 32, lt_of_lt_of_eq (Nat.mod_lt _ (by decide)) N_0.symm⟩

theorem pt_val (t : Fin cfg0.N) : pt t.val = t :=
  Fin.ext (Nat.mod_eq_of_lt (lt_of_lt_of_eq t.isLt N_0))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The two rows before point `n`. -/
def acc (c : Dev nD) : ℕ → Vec F S2x128 .f32
  | 0 => k0_pay2
  | n + 1 => step (iblk V c 0 (pt n)) (iblk V c 1 (pt n)) (iblk V c 2 (pt n)) (iblk V c 3 (pt n)) (acc c n)

/-- The body's condition holds at the first point only. -/
theorem first_iff (t : Fin cfg0.N) : First (grid0.coords t) ↔ t.val = 0 := by
  have ht : t.val < 32 := Nat.lt_of_lt_of_eq t.isLt N_0
  have e0 : (grid0.coords t 0).val = t.val / 8 % 4 := Pipeline.Grid.coords_val t 0 (by decide) rfl
  have e1 : (grid0.coords t 1).val = t.val / 1 % 8 := Pipeline.Grid.coords_val t 1 (by decide) rfl
  have h : First (grid0.coords t) ↔ t.val % 32 = 0 := by
    simp only [First, e0, e1]
    word_cmp
  rw [h]; omega

/-- The region's data: the inputs keep their blocks, the output holds the rows after the point. -/
def dat (c : Dev nD) : Dat τ (Elt F) Unit ℕ (Pipeline.UD sig nD τ) ℕ cfg0 c where
  A w := V c (Proc.devRef .tc (Pipeline.arrRef spec0 w))
  after w t := match w with
    | ⟨0, _⟩ => iblk V c 0 t
    | ⟨1, _⟩ => iblk V c 1 t
    | ⟨2, _⟩ => iblk V c 2 t
    | ⟨3, _⟩ => iblk V c 3 t
    | ⟨4, _⟩ => acc V c (t.val + 1)
  Φ _ := Pipeline.ΦA spec0 c
  q _ := fullShare
  owed _ := 0

theorem A_eq (c : Dev nD) (w : Fin cfg0.W) : (dat V c).A w = V c (Proc.devRef .tc (Pipeline.arrRef spec0 w)) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = acc V c (t.val + 1) := by dsimp only [dat]

/-- Input 0's buffer holds its block at every point. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
/-- Input 1's buffer holds its block at every point. -/
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]) t d).trans
    (by unfold Dat.fetched Dat.blockOf iblk; rw [A_eq]; rfl)
/-- Input 2's buffer holds its block at every point. -/
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]) t d).trans
    (by unfold Dat.fetched Dat.blockOf iblk; rw [A_eq]; rfl)
/-- Input 3's buffer holds its block at every point. -/
theorem before_3 (c : Dev nD) (t : Fin cfg0.N) (d) : (dat V c).before 3 t d = iblk V c 3 t :=
  ((dat V c).before_in_eq_fetched 3 rfl (fun _ => rfl) (fun _ _ _ => rfl) (fun t => by rw [after_3]; unfold Dat.blockOf iblk; rw [A_eq]) t d).trans
    (by unfold Dat.fetched Dat.blockOf iblk; rw [A_eq]; rfl)
/-- At a later point the output's buffer holds the rows the point before left. -/
theorem before_4 (c : Dev nD) (t : Fin cfg0.N) (ht : t.val ≠ 0) (d) : (dat V c).before 4 t d = acc V c t.val := by
  have h32 : t.val < 32 := Nat.lt_of_lt_of_eq t.isLt N_0
  refine ((dat V c).before_out_kept 4 rfl t ht ?_ (fun _ => rfl) (fun _ _ => rfl) d).trans ?_
  · refine Bool.eq_false_iff.mpr fun h => ?_
    have h' := (flush0_4 _).mp h
    dsimp only at h'
    omega
  · rw [after_4]
    congr 1
    show t.val - 1 + 1 = t.val
    omega

/-- What the body is called with at point `t`, the windows one by one. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- What the body returns at point `t`. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

set_option maxHeartbeats 1600000 in
/-- The body at any point leaves the rows of that point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.succ = (dat V c).Φ t.castSucc from rfl,
    after_0, after_1, after_2, after_3, after_4]
  unfold Dat.owesAt Pipeline.owesWithin
  by_cases h0 : t.val = 0
  · iintro ⟨HΦ, ⟨%W, %hW, Ho⟩, ⟨%d0, H0⟩, ⟨%d1, H1⟩, ⟨%d2, H2⟩, ⟨%d3, H3⟩, ⟨%d4, H4⟩⟩
    iapply (body_first c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4))
      (iblk V c 0 t) (iblk V c 1 t) (iblk V c 2 t) (iblk V c 3 t) ((first_iff t).mpr h0) ((dat V c).before 4 t d4) W _)
    isplitl [H0 H1 H2 H3 H4 Ho]
    · isplitl [H0]; · iexact H0
      isplitl [H1]; · iexact H1
      isplitl [H2]; · iexact H2
      isplitl [H3]; · iexact H3
      isplitl [H4]; · iexact H4
      iexact Ho
    iintro ⟨H0, H1, H2, H3, H4, ⟨%W', Ho⟩⟩
    isplitl [HΦ]; · iexact HΦ
    isplitl [Ho]
    · iexists W'; isplitr; · ipureintro; exact fun _ _ => Or.inl trivial
      iexact Ho
    isplitl [H0]; · iexact H0
    isplitl [H1]; · iexact H1
    isplitl [H2]; · iexact H2
    isplitl [H3]; · iexact H3
    rw [show acc V c (t.val + 1) = step (iblk V c 0 t) (iblk V c 1 t) (iblk V c 2 t) (iblk V c 3 t) k0_pay2 from by
      show step (iblk V c 0 (pt t.val)) (iblk V c 1 (pt t.val)) (iblk V c 2 (pt t.val)) (iblk V c 3 (pt t.val)) (acc V c t.val) = _
      rw [pt_val, h0]; rfl]
    iexact H4
  · simp only [before_4 V c t h0]
    iintro ⟨HΦ, ⟨%W, %hW, Ho⟩, ⟨%d0, H0⟩, ⟨%d1, H1⟩, ⟨%d2, H2⟩, ⟨%d3, H3⟩, ⟨%d4, H4⟩⟩
    iapply (body_next c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4))
      (iblk V c 0 t) (iblk V c 1 t) (iblk V c 2 t) (iblk V c 3 t) (fun h => h0 ((first_iff t).mp h)) (acc V c t.val) W _)
    isplitl [H0 H1 H2 H3 H4 Ho]
    · isplitl [H0]; · iexact H0
      isplitl [H1]; · iexact H1
      isplitl [H2]; · iexact H2
      isplitl [H3]; · iexact H3
      isplitl [H4]; · iexact H4
      iexact Ho
    iintro ⟨H0, H1, H2, H3, H4, ⟨%W', Ho⟩⟩
    isplitl [HΦ]; · iexact HΦ
    isplitl [Ho]
    · iexists W'; isplitr; · ipureintro; exact fun _ _ => Or.inl trivial
      iexact Ho
    isplitl [H0]; · iexact H0
    isplitl [H1]; · iexact H1
    isplitl [H2]; · iexact H2
    isplitl [H3]; · iexact H3
    rw [show acc V c (t.val + 1) = step (iblk V c 0 t) (iblk V c 1 t) (iblk V c 2 t) (iblk V c 3 t) (acc V c t.val) from by
      show step (iblk V c 0 (pt t.val)) (iblk V c 1 (pt t.val)) (iblk V c 2 (pt t.val)) (iblk V c 3 (pt t.val)) (acc V c t.val) = _
      rw [pt_val]]
    iexact H4

/-- The body the table names at point `t`'s slots. -/
theorem defs₀_row (t : Fin cfg0.N) :
    defs₀ (F := F) .tc cfg0.body (cfg0.bodyArgs t (cfg0.slots t)) = bodyAt0 t := by
  unfold defs₀; rw [Defs.onTc_tc]

/-- The body meets its obligation at every point. -/
theorem body_obligation (c : Dev nD) : BodyObligation (dat V c) (defs₀ (F := F)) Variants.none () Set.univ := fun t => by
  rw [bigSep_W0, bigSep_W0, defs₀_row]
  exact triple_restated (sound_body V c t) rfl .rfl fun _ => .rfl

/-- The only written block is the whole array. -/
theorem flushed_eq (c : Dev nD) (t : Fin cfg0.N) (h : (cfg0.win 4).flush t = true) :
    (dat V c).flushed 4 t = ((cfg0.win 4).blk t).view.read (Elt F) (acc V c 32) := by
  have h31 : t.val % 32 = 31 := (flush0_4 t).mp h
  have h32 : t.val < 32 := Nat.lt_of_lt_of_eq t.isLt N_0
  obtain rfl : t = pt 31 := Fin.ext (by show t.val = 31 % 32; omega)
  show (cfg0.win 4).cut (grid0.coords (pt 31)) ((dat V c).after 4 (pt 31)) = _
  rw [after_4]
  have hz : (fun a => win0_4.index (pt 31) a * main_v18.ty.shape.size a) = fun _ => 0 := funext fun a => by fin_cases a <;> decide
  exact (Memref.read_access_unit_zero (Elt F) main_v18 hz (fun a => by rw [congrFun hz a]; simp) (acc V c 32)).symm

/-- The array of the two rows ends at the rows after the last point. -/
theorem final (c : Dev nD) : (dat V c).arrAt 4 cfg0.N = acc V c 32 :=
  (dat V c).arrAt_eq_of_cover 4 (acc V c 32) (flushed_eq V c) fun i =>
    ⟨pt 31, (flush0_4 (pt 31)).mpr rfl, by
      show i ∈ ((View.whole main_v18).slice (win0_4.rect (pt 31))).set
      rw [View.set_slice_whole, Rect.mem_set_unit]
      intro a
      have h0 : (i 0 : Nat) < 2 := (i 0).isLt
      have h1 : (i 1 : Nat) < 128 := (i 1).isLt
      match a with
      | ⟨0, _⟩ =>
        show win0_4.index (pt 31) 0 * win0_4.size 0 ≤ (i 0 : Nat) ∧ (i 0 : Nat) < win0_4.index (pt 31) 0 * win0_4.size 0 + win0_4.xsize (grid0.coords (pt 31)) 0
        rw [show win0_4.index (pt 31) 0 * win0_4.size 0 = 0 from by decide +kernel, show win0_4.xsize (grid0.coords (pt 31)) 0 = 2 from by decide +kernel]; omega
      | ⟨1, _⟩ =>
        show win0_4.index (pt 31) 1 * win0_4.size 1 ≤ (i 1 : Nat) ∧ (i 1 : Nat) < win0_4.index (pt 31) 1 * win0_4.size 1 + win0_4.xsize (grid0.coords (pt 31)) 1
        rw [show win0_4.index (pt 31) 1 * win0_4.size 1 = 0 from by decide +kernel, show win0_4.xsize (grid0.coords (pt 31)) 1 = 128 from by decide +kernel]; omega⟩

end Cert.KernelIdeal.Stats

end
-- ==== Proof.Table.lean ====
/- The three running tables of the scatter kernel, as values: what storing one point's row does to a
   table, and what one trip of eight points does to the three of them. -/
module

public import proofs.«01_k».proof.Proof.Gen.KernelIdeal.Skeleton
public import Idealize.ShloMosaic.Lib.WritesUnit
public import Idealize.ShloMosaic.Lib.Pipeline.FrameBody
public import Idealize.ShloMosaic.Lib.Pipeline.Value
public import Idealize.ShloMosaic.Lib.PointwiseCore

@[expose] public section

set_option maxRecDepth 16384

noncomputable section

namespace Cert.KernelIdeal.Scatter

open Idealize.ShloMosaic Idealize.ShloMosaic.TcCoe
open Cert.KernelIdeal Cert.KernelIdeal.Gen

variable {F : FTy → Type} [FloatOps F]

/-- A table of 32768 cells by 128 channels. -/
abbrev Tab (F : FTy → Type) := S32768x128.Idx → F .f32

/-- The table after a point of cell `v` with feature row `r`: that cell's row becomes the maximum of what it held and
    `r`, every other row stays. -/
def put (T : Tab F) (v : BitVec 32) (r : Fin 128 → F .f32) : Tab F :=
  fun y => if (y 0).val = v.toNat then FloatOps.maximumf (T y) (r (y 1)) else T y

/-- The cell of point `n` of a block. -/
def cellAt (X : S1x1x4096.Idx → BitVec 32) (n : ℕ) : BitVec 32 := X (ix3 0 0 (Fin.ofNat 4096 n))

/-- The feature row of point `n` of a block. -/
def rowAt (H : S4096x128.Idx → F .f32) (n : ℕ) : Fin 128 → F .f32 := fun q => H (ix2 (Fin.ofNat 4096 n) q)

/-- Point `n` put into a table. -/
def putAt (X : S1x1x4096.Idx → BitVec 32) (H : S4096x128.Idx → F .f32) (n : ℕ) (T : Tab F) : Tab F :=
  put T (cellAt X n) (rowAt H n)

/-- The first table after `k` trips: each trip puts its points 0, 3 and 6 into it. -/
def tab0 (X : S1x1x4096.Idx → BitVec 32) (H : S4096x128.Idx → F .f32) (T : Tab F) : ℕ → Tab F
  | 0 => T
  | k + 1 => putAt X H (8 * k + 6) (putAt X H (8 * k + 3) (putAt X H (8 * k) (tab0 X H T k)))

/-- The second table after `k` trips: each trip puts its points 1, 4 and 7 into it. -/
def tab1 (X : S1x1x4096.Idx → BitVec 32) (H : S4096x128.Idx → F .f32) (T : Tab F) : ℕ → Tab F
  | 0 => T
  | k + 1 => putAt X H (8 * k + 7) (putAt X H (8 * k + 4) (putAt X H (8 * k + 1) (tab1 X H T k)))

/-- The third table after `k` trips: each trip puts its points 2 and 5 into it. -/
def tab2 (X : S1x1x4096.Idx → BitVec 32) (H : S4096x128.Idx → F .f32) (T : Tab F) : ℕ → Tab F
  | 0 => T
  | k + 1 => putAt X H (8 * k + 5) (putAt X H (8 * k + 2) (tab2 X H T k))

/-- Storing over one row the maximum of that row and `r` puts `r` into the table read. -/
theorem read_put {sig : RefSig} {κ : Kind} {sp : Space} (v : View sig κ sp S32768x128 .f32) (f : v.ty.Contents (Elt F))
    (L : List (View.Piece (Elt F) S32768x128 .f32)) (off : Fin 2 → ℕ) (w : BitVec 32)
    (inb : ∀ a, off a + S1x128.size a ≤ S32768x128.size a) (hoff : off = ![w.toNat, 0])
    (pay : (Rect.unit (s := S32768x128) off S1x128.size inb).shape.Idx → Elt F .f32) (r : Fin 128 → F .f32)
    (hpay : ∀ q : Fin 128, pay (ix2 0 q)
      = FloatOps.maximumf (v.readAt (Elt F) (Rect.unit (s := S32768x128) off S1x128.size inb).toLoadRect (v.writes (Elt F) f L) (ix2 0 q)) (r q)) :
    v.read (Elt F) (v.writes (Elt F) f ((⟨Rect.unit (s := S32768x128) off S1x128.size inb, pay⟩ : View.Piece (Elt F) S32768x128 .f32) :: L))
      = put (v.read (Elt F) (v.writes (Elt F) f L)) w r := by
  subst hoff
  funext y
  unfold put
  by_cases h : (y 0).val = w.toNat
  · rw [if_pos h]
    have hy : y = (Rect.unit (s := S32768x128) ![w.toNat, 0] S1x128.size inb).emb (ix2 0 (y 1)) := by
      funext a
      apply Fin.ext
      match a with
      | ⟨0, _⟩ => show (y 0).val = w.toNat + 1 * 0; omega
      | ⟨1, _⟩ => show (y 1).val = 0 + 1 * (y 1).val; omega
    refine (View.read_writes_cons_unit_of_mem v f inb pay L y (ix2 0 (y 1)) rfl ?_).trans ?_
    · intro a
      match a with
      | ⟨0, _⟩ => show (y 0).val = w.toNat + 0; omega
      | ⟨1, _⟩ => show (y 1).val = 0 + (y 1).val; omega
    · rw [hpay (y 1)]
      congr 1
      exact congrArg _ hy.symm
  · rw [if_neg h]
    exact View.read_writes_cons_unit_of_not_mem v f inb pay L y rfl 0 (by show (y 0).val < w.toNat ∨ w.toNat + 1 ≤ (y 0).val; omega)

/-- Reading one cell of the block of cells. -/
theorem ld_cell {sig : RefSig} {κ : Kind} {sp : Space} (v : View sig κ sp S1x1x4096 .i32) (f : v.ty.Contents (Elt F)) (off : Fin 3 → ℕ) (inb : ∀ a, off a + S1x1x1.size a ≤ S1x1x4096.size a)
    (n : ℕ) (hn : n < 4096) (hoff : off = ![0, 0, n]) (x : S1x1x1.Idx) :
    v.readAt (Elt F) (Rect.unit (s := S1x1x4096) off S1x1x1.size inb).toLoadRect f x = cellAt (v.read (Elt F) f) n := by
  subst hoff
  show v.read (Elt F) f _ = v.read (Elt F) f _
  congr 1
  funext a
  apply Fin.ext
  match a with
  | ⟨0, _⟩ => exact Nat.lt_one_iff.mp (Fin.isLt _)
  | ⟨1, _⟩ => exact Nat.lt_one_iff.mp (Fin.isLt _)
  | ⟨2, _⟩ =>
    show n + 1 * (x 2).val = n % 4096
    have : (x 2).val < 1 := (x 2).isLt
    omega

/-- Row `j` of eight feature rows read from row `8k` on, at one channel. -/
theorem ld_rows {sig : RefSig} {κ : Kind} {sp : Space} (v : View sig κ sp S4096x128 .f32) (f : v.ty.Contents (Elt F)) (off : Fin 2 → ℕ) (inb : ∀ a, off a + S8x128.size a ≤ S4096x128.size a)
    (n : ℕ) (hoff : off = ![n, 0]) (j : ℕ) (hj : j < 8) (hn : n + j < 4096) (q : Fin 128) :
    v.readAt (Elt F) (Rect.unit (s := S4096x128) off S8x128.size inb).toLoadRect f (ix2 (⟨j, hj⟩ : Fin 8) q) = rowAt (v.read (Elt F) f) (n + j) q := by
  subst hoff
  show v.read (Elt F) f _ = v.read (Elt F) f _
  congr 1
  funext a
  apply Fin.ext
  match a with
  | ⟨0, _⟩ => show n + 1 * j = (n + j) % 4096; omega
  | ⟨1, _⟩ => show 0 + 1 * q.val = q.val; omega

/-- The stored row of a point: the row the table held against row `j` of the eight. -/
theorem pay_apply (j : ℕ) (hj : j < 8) (V : S8x128.Idx → F .f32) (T : S1x128.Idx → F .f32) (h : S8x128.Slices ![j, 0] S1x128)
    (h' : S1x128.ShapeCasts S1x128) (q : Fin 128) :
    shapeCast S1x128 (maximumf (F := F) (φ := .f32) T (extractStridedSlice S1x128 ![j, 0] V h)) h' (ix2 0 q)
      = FloatOps.maximumf (T (ix2 0 q)) (V (ix2 (⟨j, hj⟩ : Fin 8) q)) := by
  rw [shapeCast_self]
  show FloatOps.maximumf (T _) (V _) = _
  congr 2
  funext a
  apply Fin.ext
  match a with
  | ⟨0, _⟩ => show j + 0 = j; omega
  | ⟨1, _⟩ => show 0 + q.val = q.val; omega

end Cert.KernelIdeal.Scatter

end
-- ==== Proof.Loop.lean ====
/- The scatter kernel's loop over a block's points: eight points a trip, each stored into one of three tables.
   The invariant names what the tables hold before a trip. -/
module

public import proofs.«01_k».proof.Proof.Gen.KernelIdeal.Loops
public import proofs.«01_k».proof.Proof.Table

@[expose] public section

set_option maxRecDepth 16384

noncomputable section

namespace Cert.KernelIdeal.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- Where a trip reads its eight feature rows. -/
theorem rows_off : ∀ k : Fin k1_t1_loop.trips, k1_off1 k = ![8 * k.val, 0] := by decide +kernel
/-- Where a trip reads the cell of its point 0. -/
theorem cell_off0 : ∀ k : Fin k1_t1_loop.trips, k1_off2 k = ![0, 0, 8 * k.val + 0] := by decide +kernel
/-- Where a trip reads the cell of its point 1. -/
theorem cell_off1 : ∀ k : Fin k1_t1_loop.trips, k1_off4 k = ![0, 0, 8 * k.val + 1] := by decide +kernel
/-- Where a trip reads the cell of its point 2. -/
theorem cell_off2 : ∀ k : Fin k1_t1_loop.trips, k1_off6 k = ![0, 0, 8 * k.val + 2] := by decide +kernel
/-- Where a trip reads the cell of its point 3. -/
theorem cell_off3 : ∀ k : Fin k1_t1_loop.trips, k1_off8 k = ![0, 0, 8 * k.val + 3] := by decide +kernel
/-- Where a trip reads the cell of its point 4. -/
theorem cell_off4 : ∀ k : Fin k1_t1_loop.trips, k1_off10 k = ![0, 0, 8 * k.val + 4] := by decide +kernel
/-- Where a trip reads the cell of its point 5. -/
theorem cell_off5 : ∀ k : Fin k1_t1_loop.trips, k1_off12 k = ![0, 0, 8 * k.val + 5] := by decide +kernel
/-- Where a trip reads the cell of its point 6. -/
theorem cell_off6 : ∀ k : Fin k1_t1_loop.trips, k1_off14 k = ![0, 0, 8 * k.val + 6] := by decide +kernel
/-- Where a trip reads the cell of its point 7. -/
theorem cell_off7 : ∀ k : Fin k1_t1_loop.trips, k1_off16 k = ![0, 0, 8 * k.val + 7] := by decide +kernel

/-- A word below the number of cells passes the bounds check of a table row. -/
theorem chk_of_lt {v : BitVec 32} (h : v.toNat < 32768) : k1_chk1 v := fun a => by
  match a with
  | ⟨0, _⟩ => show v.toNat + 1 ≤ 32768; omega
  | ⟨1, _⟩ => show 0 + 128 ≤ 128; omega

/-- Storing point `8k + j` of a block: the row of its cell, read back, against row `j` of the trip's eight rows. -/
theorem point_put {sig₂ : RefSig} {κ₂ : Kind} {sp₂ : Space} (vX : View sig₂ κ₂ sp₂ S1x1x4096 .i32) (X : vX.ty.Contents (Elt F))
    {sig₁ : RefSig} {κ₁ : Kind} {sp₁ : Space} (vH : View sig₁ κ₁ sp₁ S4096x128 .f32) (H : vH.ty.Contents (Elt F))
    {sig₀ : RefSig} {κ₀ : Kind} {sp₀ : Space} (v : View sig₀ κ₀ sp₀ S32768x128 .f32) (f : v.ty.Contents (Elt F))
    (k : Fin k1_t1_loop.trips) (j : ℕ) (hj : j < 8) (off : Fin 3 → ℕ) (hoff : off = ![0, 0, 8 * k.val + j])
    (inbX : ∀ a, off a + S1x1x1.size a ≤ S1x1x4096.size a) (x : S1x1x1.Idx)
    (offT : Fin 2 → ℕ) (inb : ∀ a, offT a + S1x128.size a ≤ S32768x128.size a)
    (hoffT : offT = ![BitVec.toNat (w := 32) (vX.readAt (Elt F) (Rect.unit (s := S1x1x4096) off S1x1x1.size inbX).toLoadRect X x), 0])
    (L : List (View.Piece (Elt F) S32768x128 .f32)) (hs : S8x128.Slices ![j, 0] S1x128) (hc : S1x128.ShapeCasts S1x128)
    (pay : (Rect.unit (s := S32768x128) offT S1x128.size inb).shape.Idx → Elt F .f32)
    (hpay : pay = shapeCast S1x128 (maximumf (F := F) (φ := .f32) (v.readAt (Elt F) (Rect.unit (s := S32768x128) offT S1x128.size inb).toLoadRect (v.writes (Elt F) f L))
      (extractStridedSlice (s := S8x128) S1x128 ![j, 0] (vH.readAt (Elt F) (Rect.unit (s := S4096x128) (k1_off1 k) S8x128.size (k1_off1_inb k)).toLoadRect H) hs)) hc)
    (T : Tab F) (hT : v.read (Elt F) (v.writes (Elt F) f L) = T) :
    v.read (Elt F) (v.writes (Elt F) f ((⟨Rect.unit (s := S32768x128) offT S1x128.size inb, pay⟩ : View.Piece (Elt F) S32768x128 .f32) :: L))
      = putAt (vX.read (Elt F) X) (vH.read (Elt F) H) (8 * k.val + j) T := by
  have hk : k.val < 512 := Nat.lt_of_lt_of_le k.isLt k1_t1_abs.2.1
  rw [ld_cell vX X off inbX (8 * k.val + j) (by omega) hoff x] at hoffT
  rw [read_put v f L offT (cellAt (vX.read (Elt F) X) (8 * k.val + j)) inb hoffT pay (rowAt (vH.read (Elt F) H) (8 * k.val + j)) ?_, hT]
  · rfl
  · intro q
    rw [hpay]
    refine (pay_apply j hj _ _ hs hc q).trans ?_
    rw [ld_rows vH H (k1_off1 k) (k1_off1_inb k) (8 * k.val) (rows_off k) j hj (by omega) q]

/-- Before trip `k` the three tables hold what the points of the trips before `k` have put into them. -/
abbrev loopState (c : Dev nD) (arg2 : Memref sig .tc .smem S1x1x4096 .i32) (arg10 : Memref sig .tc .vmem S4096x128 .f32) (arg11 arg12 arg13 : Memref sig .tc .vmem S32768x128 .f32)
    (X : BufTy.Contents (Elt F) arg2.view.ty) (H : BufTy.Contents (Elt F) arg10.view.ty) (G0 : BufTy.Contents (Elt F) arg11.view.ty) (G1 : BufTy.Contents (Elt F) arg12.view.ty) (G2 : BufTy.Contents (Elt F) arg13.view.ty) (k : ℕ) :
    sProp (MT nD τ sig Unit (Elt F) ℕ (Pipeline.UD sig nD τ) ℕ) :=
  iprop((arg2.view.loc (c : Thread nD τ) ↦[arg2.view.set]{fullShare} X) ∗ (arg10.view.loc (c : Thread nD τ) ↦[arg10.view.set]{fullShare} H)
    ∗ (∃ f, (arg11.view.loc (c : Thread nD τ) ↦[arg11.view.set]{fullShare} f) ∗ ⌜arg11.view.read (Elt F) f = tab0 (arg2.view.read (Elt F) X) (arg10.view.read (Elt F) H) (arg11.view.read (Elt F) G0) k⌝)
    ∗ (∃ f, (arg12.view.loc (c : Thread nD τ) ↦[arg12.view.set]{fullShare} f) ∗ ⌜arg12.view.read (Elt F) f = tab1 (arg2.view.read (Elt F) X) (arg10.view.read (Elt F) H) (arg12.view.read (Elt F) G1) k⌝)
    ∗ (∃ f, (arg13.view.loc (c : Thread nD τ) ↦[arg13.view.set]{fullShare} f) ∗ ⌜arg13.view.read (Elt F) f = tab2 (arg2.view.read (Elt F) X) (arg10.view.read (Elt F) H) (arg13.view.read (Elt F) G2) k⌝))

set_option warn.classDefReducibility false in
set_option maxHeartbeats 4000000 in
/-- One trip takes the tables before it to the tables after it. -/
@[sl_loop] def scatterLoop (𝒱 : Variants) (c : Dev nD) (bd : Option 𝒱.V) (E : Set ℕ) (i : grid1.Coords) (arg2 : Memref sig .tc .smem S1x1x4096 .i32) (harg2 : arg2.IsWhole) (arg3 : Memref sig .tc .vmem S1x3x4096 .f32) (harg3 : arg3.IsWhole) (arg4 : Memref sig .tc .vmem S1x128x4096 .f32) (harg4 : arg4.IsWhole) (arg5 : Memref sig .tc .vmem S131x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .hbm S4x32768x128 .f32) (harg9 : arg9.IsWhole) (arg10 : Memref sig .tc .vmem S4096x128 .f32) (harg10 : arg10.IsWhole) (arg11 : Memref sig .tc .vmem S32768x128 .f32) (harg11 : arg11.IsWhole) (arg12 : Memref sig .tc .vmem S32768x128 .f32) (harg12 : arg12.IsWhole) (arg13 : Memref sig .tc .vmem S32768x128 .f32) (harg13 : arg13.IsWhole) (arg14 : DmaSems sig S_) (c0_i32_19 : BitVec 32) (c1_i32 : BitVec 32)
    (X : BufTy.Contents (Elt F) arg2.view.ty) (H : BufTy.Contents (Elt F) arg10.view.ty) (G0 : BufTy.Contents (Elt F) arg11.view.ty) (G1 : BufTy.Contents (Elt F) arg12.view.ty) (G2 : BufTy.Contents (Elt F) arg13.view.ty)
    (hX : ∀ y, BitVec.toNat (w := 32) (arg2.view.read (Elt F) X y) < 32768) :
    LoopInvTy_k1_t1 (F := F) Unit ℕ (Pipeline.UD sig nD τ) ℕ 𝒱 c bd E i arg2 harg2 arg3 harg3 arg4 harg4 arg5 harg5 arg6 harg6 arg7 harg7 arg8 harg8 arg9 harg9 arg10 harg10 arg11 harg11 arg12 harg12 arg13 harg13 arg14 c0_i32_19 c1_i32 where
  inv k _ := loopState c arg2 arg10 arg11 arg12 arg13 X H G0 G1 G2 k
  step k acc := by
    have hk : k.val < 512 := Nat.lt_of_lt_of_le k.isLt k1_t1_abs.2.1
    have k1_hw1 : k1_chk1 (arg2.view.readAt (Elt F) (Rect.unit (s := S1x1x4096) (k1_off2 k) S1x1x1.size (k1_off2_inb k)).toLoadRect X (Shape.Idx.first (numel1_S1x1x1.symm ▸ Nat.one_pos))) := chk_of_lt (hX _)
    have k1_hw2 : k1_chk2 (arg2.view.readAt (Elt F) (Rect.unit (s := S1x1x4096) (k1_off4 k) S1x1x1.size (k1_off4_inb k)).toLoadRect X (Shape.Idx.first (numel1_S1x1x1.symm ▸ Nat.one_pos))) := chk_of_lt (hX _)
    have k1_hw3 : k1_chk3 (arg2.view.readAt (Elt F) (Rect.unit (s := S1x1x4096) (k1_off6 k) S1x1x1.size (k1_off6_inb k)).toLoadRect X (Shape.Idx.first (numel1_S1x1x1.symm ▸ Nat.one_pos))) := chk_of_lt (hX _)
    have k1_hw4 : k1_chk4 (arg2.view.readAt (Elt F) (Rect.unit (s := S1x1x4096) (k1_off8 k) S1x1x1.size (k1_off8_inb k)).toLoadRect X (Shape.Idx.first (numel1_S1x1x1.symm ▸ Nat.one_pos))) := chk_of_lt (hX _)
    have k1_hw5 : k1_chk5 (arg2.view.readAt (Elt F) (Rect.unit (s := S1x1x4096) (k1_off10 k) S1x1x1.size (k1_off10_inb k)).toLoadRect X (Shape.Idx.first (numel1_S1x1x1.symm ▸ Nat.one_pos))) := chk_of_lt (hX _)
    have k1_hw6 : k1_chk6 (arg2.view.readAt (Elt F) (Rect.unit (s := S1x1x4096) (k1_off12 k) S1x1x1.size (k1_off12_inb k)).toLoadRect X (Shape.Idx.first (numel1_S1x1x1.symm ▸ Nat.one_pos))) := chk_of_lt (hX _)
    have k1_hw7 : k1_chk7 (arg2.view.readAt (Elt F) (Rect.unit (s := S1x1x4096) (k1_off14 k) S1x1x1.size (k1_off14_inb k)).toLoadRect X (Shape.Idx.first (numel1_S1x1x1.symm ▸ Nat.one_pos))) := chk_of_lt (hX _)
    have k1_hw8 : k1_chk8 (arg2.view.readAt (Elt F) (Rect.unit (s := S1x1x4096) (k1_off16 k) S1x1x1.size (k1_off16_inb k)).toLoadRect X (Shape.Idx.first (numel1_S1x1x1.symm ▸ Nat.one_pos))) := chk_of_lt (hX _)
    unfold k1_t1_body
    iintro ⟨HX, HH, ⟨%f0, H0, %h0⟩, ⟨%f1, H1, %h1⟩, ⟨%f2, H2, %h2⟩⟩
    sl_exec
    sl_step
    isplitl [HX]; · iexact HX
    isplitl [HH]; · iexact HH
    isplitl [H0]
    · iexists _; isplitl [H0]; · iexact H0
      ipureintro
      sl_unfold_words
      exact point_put arg2.view X arg10.view H _ _ k 6 (by omega) _ (cell_off6 k) _ _ _ _ rfl _ slices_S8x128_o6_0_S1x128 shapeCasts_S1x128_S1x128 _ rfl _ (point_put arg2.view X arg10.view H _ _ k 3 (by omega) _ (cell_off3 k) _ _ _ _ rfl _ slices_S8x128_o3_0_S1x128 shapeCasts_S1x128_S1x128 _ rfl _ (point_put arg2.view X arg10.view H _ _ k 0 (by omega) _ (cell_off0 k) _ _ _ _ rfl _ slices_S8x128_o0_0_S1x128 shapeCasts_S1x128_S1x128 _ rfl _ h0))
    isplitl [H1]
    · iexists _; isplitl [H1]; · iexact H1
      ipureintro
      sl_unfold_words
      exact point_put arg2.view X arg10.view H _ _ k 7 (by omega) _ (cell_off7 k) _ _ _ _ rfl _ slices_S8x128_o7_0_S1x128 shapeCasts_S1x128_S1x128 _ rfl _ (point_put arg2.view X arg10.view H _ _ k 4 (by omega) _ (cell_off4 k) _ _ _ _ rfl _ slices_S8x128_o4_0_S1x128 shapeCasts_S1x128_S1x128 _ rfl _ (point_put arg2.view X arg10.view H _ _ k 1 (by omega) _ (cell_off1 k) _ _ _ _ rfl _ slices_S8x128_o1_0_S1x128 shapeCasts_S1x128_S1x128 _ rfl _ h1))
    iexists _; isplitl [H2]; · iexact H2
    ipureintro
    sl_unfold_words
    exact point_put arg2.view X arg10.view H _ _ k 5 (by omega) _ (cell_off5 k) _ _ _ _ rfl _ slices_S8x128_o5_0_S1x128 shapeCasts_S1x128_S1x128 _ rfl _ (point_put arg2.view X arg10.view H _ _ k 2 (by omega) _ (cell_off2 k) _ _ _ _ rfl _ slices_S8x128_o2_0_S1x128 shapeCasts_S1x128_S1x128 _ rfl _ h2)

end Cert.KernelIdeal.Scatter

end
-- ==== Proof.Body1.lean ====
/- One point of the scatter kernel: what its body leaves in the three tables and in the result it copies out. -/
module

public import proofs.«01_k».proof.Proof.Loop
public import Idealize.ShloMosaic.Lib.ValueLayout
public import Idealize.ShloMosaic.Lib.VecWindow
public import proofs.«01_k».proof.Proof.Gen.KernelIdeal.Points

@[expose] public section

set_option maxRecDepth 16384

noncomputable section

namespace Cert.KernelIdeal.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The point is the first of its batch. -/
abbrev First (i : grid1.Coords) : Prop := (Scalar.cmpi .ne (Scalar.extui (Scalar.cmpi .eq (BitVec.ofNat 32 (i 1).val) 0#32)) 0#32) = 1#1

/-- The point is the last of its batch. -/
abbrev Last (i : grid1.Coords) : Prop := k1_cond2 i = 1#1

/-- The three tables, and the result the tables are copied out to. -/
structure Tabs (F : FTy → Type) where
  t0 : Tab F
  t1 : Tab F
  t2 : Tab F
  out : S4x32768x128.Idx → F .f32

/-- A block's normalised features. -/
def feats (x1 : Vec F S1x3x4096 .f32) (x2 : Vec F S1x128x4096 .f32) (x3 : Vec F S131x128 .f32) (x4 x5 x6 : Vec F S1x128 .f32) : Vec F S4096x128 .f32 :=
  k1_pay13 x1 x2 (View.ld (Val := Elt F) (e' := .f32) x3 (Rect.unit (s := S131x128) ![0, 0] S3x128.size inb_S131x128_S3x128_0_0))
    (View.ld (Val := Elt F) (e' := .f32) x3 (Rect.unit (s := S131x128) ![3, 0] S128x128.size inb_S131x128_S128x128_3_0)) x4 x5 x6

/-- All 512 trips' points put into the three tables. -/
def fill (X : S1x1x4096.Idx → BitVec 32) (H : S4096x128.Idx → F .f32) (s : Tabs F) : Tabs F :=
  ⟨tab0 X H s.t0 512, tab1 X H s.t1 512, tab2 X H s.t2 512, s.out⟩

/-- The tables emptied: every entry −∞. -/
def clear (s : Tabs F) : Tabs F := ⟨k1_pay10, k1_pay11, k1_pay12, s.out⟩

/-- The tables merged into the first, and that copied to slab `b` of the result. -/
def finish (b : ℕ) (s : Tabs F) : Tabs F :=
  ⟨k1_pay3 s.t0 s.t1 s.t2, s.t1, s.t2, fun y => if (y 0).val = b then k1_pay3 s.t0 s.t1 s.t2 (ix2 (y 1) (y 2)) else s.out y⟩

/-- What the body holds of the windows it only reads. -/
abbrev wins (c : Dev nD) (arg2 : Memref sig .tc .smem S1x1x4096 .i32) (arg3 : Memref sig .tc .vmem S1x3x4096 .f32) (arg4 : Memref sig .tc .vmem S1x128x4096 .f32) (arg5 : Memref sig .tc .vmem S131x128 .f32) (arg6 : Memref sig .tc .vmem S1x128 .f32) (arg7 : Memref sig .tc .vmem S1x128 .f32) (arg8 : Memref sig .tc .vmem S1x128 .f32)
    (x0 : Vec F S1x1x4096 .i32) (x1 : Vec F S1x3x4096 .f32) (x2 : Vec F S1x128x4096 .f32) (x3 : Vec F S131x128 .f32) (x4 : Vec F S1x128 .f32) (x5 : Vec F S1x128 .f32) (x6 : Vec F S1x128 .f32) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6)

/-- What the body holds of what it works on: the feature scratch at anything, the tables and the result at `s`, the copy's semaphore at zero. -/
abbrev work (c : Dev nD) (arg10 : Memref sig .tc .vmem S4096x128 .f32) (arg11 arg12 arg13 : Memref sig .tc .vmem S32768x128 .f32) (s : Tabs F) : sProp 𝕄 :=
  iprop((∃ d, owns (c : Thread nD τ) arg10 fullShare d) ∗ owns (c : Thread nD τ) arg11 fullShare s.t0 ∗ owns (c : Thread nD τ) arg12 fullShare s.t1 ∗ owns (c : Thread nD τ) arg13 fullShare s.t2
    ∗ semVal ((c : Thread nD τ), SemLoc.dma 17) 0 ∗ owns (c : Thread nD τ) (Memref.whole main_v31) fullShare s.out)

/-- The feature block the body stores is `feats` of the windows' contents. -/
theorem feats_eq (arg3 : Memref sig .tc .vmem S1x3x4096 .f32) (harg3 : arg3.IsWhole) (arg4 : Memref sig .tc .vmem S1x128x4096 .f32) (harg4 : arg4.IsWhole) (arg5 : Memref sig .tc .vmem S131x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole)
    (x1 : Vec F S1x3x4096 .f32) (x2 : Vec F S1x128x4096 .f32) (x3 : Vec F S131x128 .f32) (x4 x5 x6 : Vec F S1x128 .f32) :
    k1_pay13 (arg3.view.readAt (Elt F) (Rect.unit (s := S1x3x4096) ![0, 0, 0] S1x3x4096.size inb_S1x3x4096_S1x3x4096_0_0_0).toLoadRect (harg3.unread x1))
      (arg4.view.readAt (Elt F) (Rect.unit (s := S1x128x4096) ![0, 0, 0] S1x128x4096.size inb_S1x128x4096_S1x128x4096_0_0_0).toLoadRect (harg4.unread x2))
      (arg5.view.readAt (Elt F) (Rect.unit (s := S131x128) ![0, 0] S3x128.size inb_S131x128_S3x128_0_0).toLoadRect (harg5.unread x3))
      (arg5.view.readAt (Elt F) (Rect.unit (s := S131x128) ![3, 0] S128x128.size inb_S131x128_S128x128_3_0).toLoadRect (harg5.unread x3))
      (arg6.view.readAt (Elt F) (Rect.unit (s := S1x128) ![0, 0] S1x128.size inb_S1x128_S1x128_0_0).toLoadRect (harg6.unread x4))
      (arg7.view.readAt (Elt F) (Rect.unit (s := S1x128) ![0, 0] S1x128.size inb_S1x128_S1x128_0_0).toLoadRect (harg7.unread x5))
      (arg8.view.readAt (Elt F) (Rect.unit (s := S1x128) ![0, 0] S1x128.size inb_S1x128_S1x128_0_0).toLoadRect (harg8.unread x6))
      = feats x1 x2 x3 x4 x5 x6 := by
  rw [View.readAt_full arg3.view, View.readAt_full arg4.view, View.readAt_full arg6.view, View.readAt_full arg7.view, View.readAt_full arg8.view,
    View.readAt_eq_ld, View.readAt_eq_ld, harg3.read_unread, harg4.read_unread, harg5.read_unread, harg6.read_unread, harg7.read_unread, harg8.read_unread]
  rfl

/-- The loop runs 512 trips. -/
theorem trips_eq : Scf.trips k1_t1_loop.lb k1_t1_loop.ub k1_t1_loop.st = 512 := by decide

theorem tab0_congr {X X' : S1x1x4096.Idx → BitVec 32} {H H' : S4096x128.Idx → F .f32} {T T' : Tab F} (hX : X = X') (hH : H = H') (hT : T = T') :
    tab0 X H T (Scf.trips k1_t1_loop.lb k1_t1_loop.ub k1_t1_loop.st) = tab0 X' H' T' 512 := by
  rw [hX, hH, hT, trips_eq]

theorem tab1_congr {X X' : S1x1x4096.Idx → BitVec 32} {H H' : S4096x128.Idx → F .f32} {T T' : Tab F} (hX : X = X') (hH : H = H') (hT : T = T') :
    tab1 X H T (Scf.trips k1_t1_loop.lb k1_t1_loop.ub k1_t1_loop.st) = tab1 X' H' T' 512 := by
  rw [hX, hH, hT, trips_eq]

theorem tab2_congr {X X' : S1x1x4096.Idx → BitVec 32} {H H' : S4096x128.Idx → F .f32} {T T' : Tab F} (hX : X = X') (hH : H = H') (hT : T = T') :
    tab2 X H T (Scf.trips k1_t1_loop.lb k1_t1_loop.ub k1_t1_loop.st) = tab2 X' H' T' 512 := by
  rw [hX, hH, hT, trips_eq]

theorem pay3_congr {a b c a' b' c' : Tab F} (ha : a = a') (hb : b = b') (hc : c = c') : k1_pay3 (F := F) a b c = k1_pay3 a' b' c' := by
  rw [ha, hb, hc]

/-- Where the result's slab of the point's batch lies. -/
theorem slab_off : ∀ i : grid1.Coords, k1_off18 i = ![(i 0).val, 0, 0] := fun i => by
  have h : (i 0).val < 4 := (i 0).isLt
  unfold k1_off18
  funext a
  match a with
  | ⟨0, _⟩ => show (BitVec.ofNat 32 (i 0).val).toNat = (i 0).val; rw [BitVec.toNat_ofNat, Nat.mod_eq_of_lt (by omega)]
  | ⟨1, _⟩ => rfl
  | ⟨2, _⟩ => rfl

/-- Copying a table over slab `b` of the result: that slab is the table, the other slabs stay. -/
theorem slab_write (b : Fin 4) (off : Fin 3 → ℕ) (hoff : off = ![b.val, 0, 0]) (inb : ∀ a, off a + S1x32768x128.size a ≤ S4x32768x128.size a)
    (hR : ∀ a, (Rect.unit (s := S4x32768x128) off S1x32768x128.size inb).stride a = 1)
    (sq : S1x32768x128.Squeezes S32768x128) (go : S4x32768x128.Idx → F .f32) (w : S32768x128.Idx → F .f32) :
    (Memref.whole main_v31 : Memref sig .tc .hbm S4x32768x128 .f32).view.read (Elt F)
      (View.write (Elt F) (((Memref.whole main_v31 : Memref sig .tc .hbm S4x32768x128 .f32).slice (Rect.unit (s := S4x32768x128) off S1x32768x128.size inb) hR).squeeze S32768x128 sq).view go w Finset.univ)
      = fun y => if (y 0).val = b.val then w (ix2 (y 1) (y 2)) else go y := by
  have hrd : ∀ g : S4x32768x128.Idx → F .f32, (Memref.whole main_v31 : Memref sig .tc .hbm S4x32768x128 .f32).view.read (Elt F) g = g := fun _ => rfl
  subst hoff
  set v := (((Memref.whole main_v31 : Memref sig .tc .hbm S4x32768x128 .f32).slice (Rect.unit (s := S4x32768x128) ![b.val, 0, 0] S1x32768x128.size inb) hR).squeeze S32768x128 sq).view with hv
  have hemb : ∀ (p : Fin 32768) (q : Fin 128), v.emb (ix2 p q) = (ix3 b p q : S4x32768x128.Idx) := fun p q => by
    have h1 : v.emb (ix2 p q) = (Rect.unit (s := S4x32768x128) ![b.val, 0, 0] S1x32768x128.size inb).emb (Shape.reshapeEquiv sq.numel_eq (ix2 p q)) := rfl
    refine h1.trans ((congrArg _ (ValueIdx.reshapeEquiv_ix2_1ab sq.numel_eq p q)).trans ?_)
    funext a
    apply Fin.ext
    match a with
    | ⟨0, _⟩ => show b.val + 1 * 0 = b.val; omega
    | ⟨1, _⟩ => show 0 + 1 * p.val = p.val; omega
    | ⟨2, _⟩ => show 0 + 1 * q.val = q.val; omega
  funext y
  refine (congrFun (hrd _) y).trans ?_
  by_cases h : (y 0).val = b.val
  · rw [if_pos h]
    have hy : y = v.emb (ix2 (y 1) (y 2)) := by
      rw [hemb (y 1) (y 2)]
      funext a
      match a with
      | ⟨0, _⟩ => exact Fin.ext h
      | ⟨1, _⟩ => rfl
      | ⟨2, _⟩ => rfl
    exact (congrArg (View.write (Elt F) v go w Finset.univ) hy).trans (View.write_emb_of_mem (v := v) (Val := Elt F) go w (Finset.mem_univ _))
  · rw [if_neg h]
    refine View.write_of_not_mem (v := v) (Val := Elt F) go w _ fun hm => h ?_
    obtain ⟨z, -, hz⟩ := Finset.mem_map.mp hm
    have hz' : z = ix2 (z 0) (z 1) := funext fun a => by
      match a with
      | ⟨0, _⟩ => rfl
      | ⟨1, _⟩ => rfl
    have hy : (ix3 b (z 0) (z 1) : S4x32768x128.Idx) = y := (hemb (z 0) (z 1)).symm.trans ((congrArg v.emb hz').symm.trans hz)
    rw [← hy]; rfl

theorem slab_congr (b : ℕ) {w w' : S32768x128.Idx → F .f32} {g g' : S4x32768x128.Idx → F .f32} (hw : w = w') (hg : g = g') :
    (fun y : S4x32768x128.Idx => if (y 0).val = b then w (ix2 (y 1) (y 2)) else g y) = fun y => if (y 0).val = b then w' (ix2 (y 1) (y 2)) else g' y := by
  rw [hw, hg]

section Body

variable (c : Dev nD) (i : grid1.Coords) (arg2 : Memref sig .tc .smem S1x1x4096 .i32) (harg2 : arg2.IsWhole) (arg3 : Memref sig .tc .vmem S1x3x4096 .f32) (harg3 : arg3.IsWhole) (arg4 : Memref sig .tc .vmem S1x128x4096 .f32) (harg4 : arg4.IsWhole) (arg5 : Memref sig .tc .vmem S131x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg10 : Memref sig .tc .vmem S4096x128 .f32) (harg10 : arg10.IsWhole) (arg11 : Memref sig .tc .vmem S32768x128 .f32) (harg11 : arg11.IsWhole) (arg12 : Memref sig .tc .vmem S32768x128 .f32) (harg12 : arg12.IsWhole) (arg13 : Memref sig .tc .vmem S32768x128 .f32) (harg13 : arg13.IsWhole)
  (x0 : Vec F S1x1x4096 .i32) (x1 : Vec F S1x3x4096 .f32) (x2 : Vec F S1x128x4096 .f32) (x3 : Vec F S131x128 .f32) (x4 : Vec F S1x128 .f32) (x5 : Vec F S1x128 .f32) (x6 : Vec F S1x128 .f32)
  (hX : ∀ y, BitVec.toNat (w := 32) (x0 y) < 32768)

include hX

set_option maxHeartbeats 4000000 in
/-- The last point of a batch: its points are put into the tables, which are then merged and copied out. -/
theorem body_last (hc0 : ¬ First i) (hc1 : Last i) (s : Tabs F) (W : Waits sig Unit) (K : PUnit → sProp 𝕄) :
    iprop((wins c arg2 arg3 arg4 arg5 arg6 arg7 arg8 x0 x1 x2 x3 x4 x5 x6 ∗ work c arg10 arg11 arg12 arg13 s ∗ owes (c : Thread nD τ) 0 W)
      ∗ (iprop(wins c arg2 arg3 arg4 arg5 arg6 arg7 arg8 x0 x1 x2 x3 x4 x5 x6 ∗ work c arg10 arg11 arg12 arg13 (finish (i 0).val (fill x0 (feats x1 x2 x3 x4 x5 x6) s)) ∗ ∃ W', owes (c : Thread nD τ) 0 W') -∗ K ⟨⟩))
    ⊢ wp frame (wpE (defs₀ (F := F)) Variants.none c none) Set.univ (cc1__scatter_body i arg2 harg2 arg3 harg3 arg4 harg4 arg5 harg5 arg6 harg6 arg7 harg7 arg8 harg8 (Memref.whole main_v31) (Memref.isWhole_whole _) arg10 harg10 arg11 harg11 arg12 harg12 arg13 harg13 cc1_scratch4) K := by
  simp only [cc1__scatter_body_eq_skeleton]; unfold cc1__scatter_body_skel
  simp only [k1_part3_eq_skeleton]
  unfold wins work owns
  iintro ⟨⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨⟨%d0, %g0, -, G0⟩, ⟨%g1, %hg1, G1⟩, ⟨%g2, %hg2, G2⟩, ⟨%g3, %hg3, G3⟩, Hq, ⟨%go, %hgo, Go⟩⟩, HW⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  obtain rfl := harg11.eq_unread hg1; obtain rfl := harg12.eq_unread hg2; obtain rfl := harg13.eq_unread hg3
  have hX' : ∀ y, BitVec.toNat (w := 32) (arg2.view.read (Elt F) (harg2.unread x0) y) < 32768 := fun y => by rw [harg2.read_unread]; exact hX y
  sl_exec (disch := first | sl_exact hc0 | sl_exact hc1 | sl_exact hX')
  have e0 := hL3.trans (tab0_congr (harg2.read_unread x0) ((View.read_writes_full _ _ _ _ _).trans (feats_eq arg3 harg3 arg4 harg4 arg5 harg5 arg6 harg6 arg7 harg7 arg8 harg8 x1 x2 x3 x4 x5 x6)) (harg11.read_unread _))
  have e1 := hL5.trans (tab1_congr (harg2.read_unread x0) ((View.read_writes_full _ _ _ _ _).trans (feats_eq arg3 harg3 arg4 harg4 arg5 harg5 arg6 harg6 arg7 harg7 arg8 harg8 x1 x2 x3 x4 x5 x6)) (harg12.read_unread _))
  have e2 := hL7.trans (tab2_congr (harg2.read_unread x0) ((View.read_writes_full _ _ _ _ _).trans (feats_eq arg3 harg3 arg4 harg4 arg5 harg5 arg6 harg6 arg7 harg7 arg8 harg8 x1 x2 x3 x4 x5 x6)) (harg13.read_unread _))
  sl_step
  iapply Hk
  isplitl [H0 H1 H2 H3 H4 H5 H6]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; isplitr; · ipureintro; exact harg8.read_unread _
    iexact H6
  isplitl [G0 G1 G2 G3 Hq Go]
  · isplitl [G0]
    · iexists _, _; isplitr; swap; · iexact G0
      ipureintro; rfl
    isplitl [G1]
    · iexists _; isplitr; swap; · iexact G1
      ipureintro; exact ((View.read_writes_full _ _ _ _ _).trans (pay3_congr ((View.readAt_full _ _ _).trans e0) ((View.readAt_full _ _ _).trans e1) ((View.readAt_full _ _ _).trans e2)))
    isplitl [G2]
    · iexists _; isplitr; swap; · iexact G2
      ipureintro; exact e1
    isplitl [G3]
    · iexists _; isplitr; swap; · iexact G3
      ipureintro; exact e2
    isplitl [Hq]; · iexact Hq
    iexists _; isplitr; swap; · iexact Go
    ipureintro; exact (slab_write (i 0) _ (slab_off i) _ _ _ go _).trans (slab_congr (i 0).val ((View.read_writes_full _ _ _ _ _).trans (pay3_congr ((View.readAt_full _ _ _).trans e0) ((View.readAt_full _ _ _).trans e1) ((View.readAt_full _ _ _).trans e2))) hgo)
  iexists _; iexact HW

set_option maxHeartbeats 4000000 in
/-- A point that is neither the first nor the last of its batch: its points are put into the tables. -/
theorem body_mid (hc0 : ¬ First i) (hc1 : ¬ Last i) (s : Tabs F) (W : Waits sig Unit) (K : PUnit → sProp 𝕄) :
    iprop((wins c arg2 arg3 arg4 arg5 arg6 arg7 arg8 x0 x1 x2 x3 x4 x5 x6 ∗ work c arg10 arg11 arg12 arg13 s ∗ owes (c : Thread nD τ) 0 W)
      ∗ (iprop(wins c arg2 arg3 arg4 arg5 arg6 arg7 arg8 x0 x1 x2 x3 x4 x5 x6 ∗ work c arg10 arg11 arg12 arg13 (fill x0 (feats x1 x2 x3 x4 x5 x6) s) ∗ ∃ W', owes (c : Thread nD τ) 0 W') -∗ K ⟨⟩))
    ⊢ wp frame (wpE (defs₀ (F := F)) Variants.none c none) Set.univ (cc1__scatter_body i arg2 harg2 arg3 harg3 arg4 harg4 arg5 harg5 arg6 harg6 arg7 harg7 arg8 harg8 (Memref.whole main_v31) (Memref.isWhole_whole _) arg10 harg10 arg11 harg11 arg12 harg12 arg13 harg13 cc1_scratch4) K := by
  simp only [cc1__scatter_body_eq_skeleton]; unfold cc1__scatter_body_skel
  simp only [k1_part3_eq_skeleton]
  unfold wins work owns
  iintro ⟨⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨⟨%d0, %g0, -, G0⟩, ⟨%g1, %hg1, G1⟩, ⟨%g2, %hg2, G2⟩, ⟨%g3, %hg3, G3⟩, Hq, ⟨%go, %hgo, Go⟩⟩, HW⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  obtain rfl := harg11.eq_unread hg1; obtain rfl := harg12.eq_unread hg2; obtain rfl := harg13.eq_unread hg3
  have hX' : ∀ y, BitVec.toNat (w := 32) (arg2.view.read (Elt F) (harg2.unread x0) y) < 32768 := fun y => by rw [harg2.read_unread]; exact hX y
  sl_exec (disch := first | sl_exact hc0 | sl_exact hc1 | sl_exact hX')
  have e0 := hL3.trans (tab0_congr (harg2.read_unread x0) ((View.read_writes_full _ _ _ _ _).trans (feats_eq arg3 harg3 arg4 harg4 arg5 harg5 arg6 harg6 arg7 harg7 arg8 harg8 x1 x2 x3 x4 x5 x6)) (harg11.read_unread _))
  have e1 := hL5.trans (tab1_congr (harg2.read_unread x0) ((View.read_writes_full _ _ _ _ _).trans (feats_eq arg3 harg3 arg4 harg4 arg5 harg5 arg6 harg6 arg7 harg7 arg8 harg8 x1 x2 x3 x4 x5 x6)) (harg12.read_unread _))
  have e2 := hL7.trans (tab2_congr (harg2.read_unread x0) ((View.read_writes_full _ _ _ _ _).trans (feats_eq arg3 harg3 arg4 harg4 arg5 harg5 arg6 harg6 arg7 harg7 arg8 harg8 x1 x2 x3 x4 x5 x6)) (harg13.read_unread _))
  sl_step
  iapply Hk
  isplitl [H0 H1 H2 H3 H4 H5 H6]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; isplitr; · ipureintro; exact harg8.read_unread _
    iexact H6
  isplitl [G0 G1 G2 G3 Hq Go]
  · isplitl [G0]
    · iexists _, _; isplitr; swap; · iexact G0
      ipureintro; rfl
    isplitl [G1]
    · iexists _; isplitr; swap; · iexact G1
      ipureintro; exact e0
    isplitl [G2]
    · iexists _; isplitr; swap; · iexact G2
      ipureintro; exact e1
    isplitl [G3]
    · iexists _; isplitr; swap; · iexact G3
      ipureintro; exact e2
    isplitl [Hq]; · iexact Hq
    iexists _; isplitr; swap; · iexact Go
    ipureintro; exact hgo
  iexists _; iexact HW

set_option maxHeartbeats 4000000 in
/-- The first point of a batch: the tables are emptied and its points are put into them. -/
theorem body_first (hc0 : First i) (hc1 : ¬ Last i) (s : Tabs F) (W : Waits sig Unit) (K : PUnit → sProp 𝕄) :
    iprop((wins c arg2 arg3 arg4 arg5 arg6 arg7 arg8 x0 x1 x2 x3 x4 x5 x6 ∗ work c arg10 arg11 arg12 arg13 s ∗ owes (c : Thread nD τ) 0 W)
      ∗ (iprop(wins c arg2 arg3 arg4 arg5 arg6 arg7 arg8 x0 x1 x2 x3 x4 x5 x6 ∗ work c arg10 arg11 arg12 arg13 (fill x0 (feats x1 x2 x3 x4 x5 x6) (clear s)) ∗ ∃ W', owes (c : Thread nD τ) 0 W') -∗ K ⟨⟩))
    ⊢ wp frame (wpE (defs₀ (F := F)) Variants.none c none) Set.univ (cc1__scatter_body i arg2 harg2 arg3 harg3 arg4 harg4 arg5 harg5 arg6 harg6 arg7 harg7 arg8 harg8 (Memref.whole main_v31) (Memref.isWhole_whole _) arg10 harg10 arg11 harg11 arg12 harg12 arg13 harg13 cc1_scratch4) K := by
  simp only [cc1__scatter_body_eq_skeleton]; unfold cc1__scatter_body_skel
  simp only [k1_part3_eq_skeleton]
  unfold wins work owns
  iintro ⟨⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨⟨%d0, %g0, -, G0⟩, ⟨%g1, %hg1, G1⟩, ⟨%g2, %hg2, G2⟩, ⟨%g3, %hg3, G3⟩, Hq, ⟨%go, %hgo, Go⟩⟩, HW⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  obtain rfl := harg11.eq_unread hg1; obtain rfl := harg12.eq_unread hg2; obtain rfl := harg13.eq_unread hg3
  have hX' : ∀ y, BitVec.toNat (w := 32) (arg2.view.read (Elt F) (harg2.unread x0) y) < 32768 := fun y => by rw [harg2.read_unread]; exact hX y
  sl_exec (disch := first | sl_exact hc0 | sl_exact hc1 | sl_exact hX')
  have e0 := hL3.trans (tab0_congr (harg2.read_unread x0) ((View.read_writes_full _ _ _ _ _).trans (feats_eq arg3 harg3 arg4 harg4 arg5 harg5 arg6 harg6 arg7 harg7 arg8 harg8 x1 x2 x3 x4 x5 x6)) (View.read_writes_full _ _ _ _ _))
  have e1 := hL5.trans (tab1_congr (harg2.read_unread x0) ((View.read_writes_full _ _ _ _ _).trans (feats_eq arg3 harg3 arg4 harg4 arg5 harg5 arg6 harg6 arg7 harg7 arg8 harg8 x1 x2 x3 x4 x5 x6)) (View.read_writes_full _ _ _ _ _))
  have e2 := hL7.trans (tab2_congr (harg2.read_unread x0) ((View.read_writes_full _ _ _ _ _).trans (feats_eq arg3 harg3 arg4 harg4 arg5 harg5 arg6 harg6 arg7 harg7 arg8 harg8 x1 x2 x3 x4 x5 x6)) (View.read_writes_full _ _ _ _ _))
  sl_step
  iapply Hk
  isplitl [H0 H1 H2 H3 H4 H5 H6]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; isplitr; · ipureintro; exact harg8.read_unread _
    iexact H6
  isplitl [G0 G1 G2 G3 Hq Go]
  · isplitl [G0]
    · iexists _, _; isplitr; swap; · iexact G0
      ipureintro; rfl
    isplitl [G1]
    · iexists _; isplitr; swap; · iexact G1
      ipureintro; exact e0
    isplitl [G2]
    · iexists _; isplitr; swap; · iexact G2
      ipureintro; exact e1
    isplitl [G3]
    · iexists _; isplitr; swap; · iexact G3
      ipureintro; exact e2
    isplitl [Hq]; · iexact Hq
    iexists _; isplitr; swap; · iexact Go
    ipureintro; exact hgo
  iexists _; iexact HW

end Body

end Cert.KernelIdeal.Scatter

end
-- ==== Proof.Region1.lean ====
/- The scatter kernel over its grid: the tables and the result array point by point. -/
module

public import proofs.«01_k».proof.Proof.Body1
public import proofs.«01_k».proof.Proof.Gen.KernelIdeal.Launch
public import Idealize.ShloMosaic.Lib.WordCmp
public import Idealize.ShloMosaic.Lib.Claim

@[expose] public section

set_option maxRecDepth 16384

noncomputable section

namespace Cert.KernelIdeal.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (V : Dev nD → Valuation τ sig (Elt F))

/-- Point `n` of the grid. -/
def pt (n : ℕ) : Fin cfg1.N := ⟨n % 64, lt_of_lt_of_eq (Nat.mod_lt _ (by decide)) N_1.symm⟩

theorem pt_val (t : Fin cfg1.N) : pt t.val = t :=
  Fin.ext (Nat.mod_eq_of_lt (lt_of_lt_of_eq t.isLt N_1))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The normalised features of point `t`'s block. -/
def hblk (c : Dev nD) (t : Fin cfg1.N) : Vec F S4096x128 .f32 :=
  feats (iblk V c 1 t) (iblk V c 2 t) (iblk V c 3 t) (iblk V c 4 t) (iblk V c 5 t) (iblk V c 6 t)

/-- What point `n` makes of the tables and the result array. -/
def next (c : Dev nD) (n : ℕ) (s : Tabs F) : Tabs F :=
  if n % 16 = 15 then finish (n / 16) (fill (iblk V c 0 (pt n)) (hblk V c (pt n)) s)
  else fill (iblk V c 0 (pt n)) (hblk V c (pt n)) (if n % 16 = 0 then clear s else s)

/-- The tables and the result array before point `n`. -/
def St (c : Dev nD) : ℕ → Tabs F
  | 0 => ⟨k1_pay10, k1_pay11, k1_pay12, V c (Proc.devRef .tc main_v31)⟩
  | n + 1 => next V c n (St c n)

/-- The body's first condition: the point is the first of its batch. -/
theorem first_iff (t : Fin cfg1.N) : First (grid1.coords t) ↔ t.val % 16 = 0 := by
  have ht : t.val < 64 := Nat.lt_of_lt_of_eq t.isLt N_1
  have e1 : (grid1.coords t 1).val = t.val / 1 % 16 := Pipeline.Grid.coords_val t 1 (by decide) rfl
  simp only [First, e1]
  word_cmp

/-- The body's last condition: the point is the last of its batch. -/
theorem last_iff (t : Fin cfg1.N) : Last (grid1.coords t) ↔ t.val % 16 = 15 := by
  have ht : t.val < 64 := Nat.lt_of_lt_of_eq t.isLt N_1
  have e1 : (grid1.coords t 1).val = t.val / 1 % 16 := Pipeline.Grid.coords_val t 1 (by decide) rfl
  simp only [Last, e1]
  show k1_cond2 _ = 1#1 ↔ _
  unfold k1_cond2; simp only [e1]
  word_cmp

/-- A point's batch. -/
theorem batch_val (t : Fin cfg1.N) : (grid1.coords t 0).val = t.val / 16 := by
  have ht : t.val < 64 := Nat.lt_of_lt_of_eq t.isLt N_1
  have e0 : (grid1.coords t 0).val = t.val / 16 % 4 := Pipeline.Grid.coords_val t 0 (by decide) rfl
  omega

/-- The staging buffers of the other region, at any contents. -/
def other (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f))

/-- What is held between points: the scratch and the result array at some state that agrees with `St` (the tables after a
    batch's first point only), the generator register and the other region's staging buffers. -/
def Inv (c : Dev nD) (n : ℕ) : sProp 𝕄 :=
  iprop((∃ s : Tabs F, ⌜s.out = (St V c n).out ∧ (n % 16 ≠ 0 → s = St V c n)⌝
      ∗ work c (Memref.whole cc1_scratch0) (Memref.whole cc1_scratch1) (Memref.whole cc1_scratch2) (Memref.whole cc1_scratch3) s)
    ∗ (∃ r, prngReg c r) ∗ other c)

/-- The region's data: every input keeps its block. -/
def dat (c : Dev nD) : Dat τ (Elt F) Unit ℕ (Pipeline.UD sig nD τ) ℕ cfg1 c where
  A w := V c (Proc.devRef .tc (Pipeline.arrRef spec1 w))
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
  Φ t := Inv V c t.val
  q _ := fullShare
  owed _ := 0

theorem A_eq (c : Dev nD) (w : Fin cfg1.W) : (dat V c).A w = V c (Proc.devRef .tc (Pipeline.arrRef spec1 w)) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]

/-- Input 0's buffer holds its block at every point. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
/-- Input 1's buffer holds its block at every point. -/
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]) t d).trans
    (by unfold Dat.fetched Dat.blockOf iblk; rw [A_eq]; rfl)
/-- Input 2's buffer holds its block at every point. -/
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]) t d).trans
    (by unfold Dat.fetched Dat.blockOf iblk; rw [A_eq]; rfl)
/-- Input 3's buffer holds its block at every point. -/
theorem before_3 (c : Dev nD) (t : Fin cfg1.N) (d) : (dat V c).before 3 t d = iblk V c 3 t :=
  ((dat V c).before_in_eq_fetched 3 rfl (fun _ => rfl) (fun _ _ _ => rfl) (fun t => by rw [after_3]; unfold Dat.blockOf iblk; rw [A_eq]) t d).trans
    (by unfold Dat.fetched Dat.blockOf iblk; rw [A_eq]; rfl)
/-- Input 4's buffer holds its block at every point. -/
theorem before_4 (c : Dev nD) (t : Fin cfg1.N) (d) : (dat V c).before 4 t d = iblk V c 4 t :=
  ((dat V c).before_in_eq_fetched 4 rfl (fun _ => rfl) (fun _ _ _ => rfl) (fun t => by rw [after_4]; unfold Dat.blockOf iblk; rw [A_eq]) t d).trans
    (by unfold Dat.fetched Dat.blockOf iblk; rw [A_eq]; rfl)
/-- Input 5's buffer holds its block at every point. -/
theorem before_5 (c : Dev nD) (t : Fin cfg1.N) (d) : (dat V c).before 5 t d = iblk V c 5 t :=
  ((dat V c).before_in_eq_fetched 5 rfl (fun _ => rfl) (fun _ _ _ => rfl) (fun t => by rw [after_5]; unfold Dat.blockOf iblk; rw [A_eq]) t d).trans
    (by unfold Dat.fetched Dat.blockOf iblk; rw [A_eq]; rfl)
/-- Input 6's buffer holds its block at every point. -/
theorem before_6 (c : Dev nD) (t : Fin cfg1.N) (d) : (dat V c).before 6 t d = iblk V c 6 t :=
  ((dat V c).before_in_eq_fetched 6 rfl (fun _ => rfl) (fun _ _ _ => rfl) (fun t => by rw [after_6]; unfold Dat.blockOf iblk; rw [A_eq]) t d).trans
    (by unfold Dat.fetched Dat.blockOf iblk; rw [A_eq]; rfl)

/-- What the body is called with at point `t`, the windows one by one. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- What the body returns at point `t`. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t))

variable (hX : ∀ (c : Dev nD) (y : S64x1x4096.Idx), ((V c (Proc.devRef .tc main_v30) : S64x1x4096.Idx → BitVec 32) y).toNat < 32768)

include hX in
/-- Every index word of a block is in range. -/
theorem iblk_lt (c : Dev nD) (t : Fin cfg1.N) (y : S1x1x4096.Idx) : ((iblk V c 0 t : S1x1x4096.Idx → BitVec 32) y).toNat < 32768 := by
  unfold iblk
  rw [View.read_apply]
  exact hX c _

include hX in
set_option maxHeartbeats 3200000 in
/-- The body at any point leaves the state of that point. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6]
  rw [after_0, after_1, after_2, after_3, after_4, after_5, after_6]
  rw [show (dat V c).Φ t.castSucc = Inv V c t.val from rfl, show (dat V c).Φ t.succ = Inv V c (t.val + 1) from rfl]
  unfold Dat.owesAt Pipeline.owesWithin Inv
  have hS : St V c (t.val + 1) = next V c t.val (St V c t.val) := rfl
  unfold next at hS
  rw [pt_val] at hS
  iintro ⟨⟨⟨%s, %hs, Hwork⟩, Hp, Hrest⟩, ⟨%W, %hW, Ho⟩, ⟨%d0, H0⟩, ⟨%d1, H1⟩, ⟨%d2, H2⟩, ⟨%d3, H3⟩, ⟨%d4, H4⟩, ⟨%d5, H5⟩, ⟨%d6, H6⟩⟩
  obtain ⟨hs1, hs2⟩ := hs
  by_cases h0 : t.val % 16 = 0
  · have hl : ¬ t.val % 16 = 15 := by omega
    rw [if_neg hl, if_pos h0] at hS
    have hcl : clear s = clear (St V c t.val) := by unfold clear; rw [hs1]
    iapply (body_first c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (Memref.whole cc1_scratch0) (Memref.isWhole_whole _) (Memref.whole cc1_scratch1) (Memref.isWhole_whole _) (Memref.whole cc1_scratch2) (Memref.isWhole_whole _) (Memref.whole cc1_scratch3) (Memref.isWhole_whole _) (iblk V c 0 t) (iblk V c 1 t) (iblk V c 2 t) (iblk V c 3 t) (iblk V c 4 t) (iblk V c 5 t) (iblk V c 6 t) (iblk_lt V hX c t) ((first_iff t).mpr h0) (fun h => hl ((last_iff t).mp h)) s W _)
    isplitl [H0 H1 H2 H3 H4 H5 H6 Hwork Ho]
    · isplitl [H0 H1 H2 H3 H4 H5 H6]
      · unfold wins
        isplitl [H0]; · iexact H0
        isplitl [H1]; · iexact H1
        isplitl [H2]; · iexact H2
        isplitl [H3]; · iexact H3
        isplitl [H4]; · iexact H4
        isplitl [H5]; · iexact H5
        iexact H6
      isplitl [Hwork]; · iexact Hwork
      iexact Ho
    unfold wins
    iintro ⟨⟨H0, H1, H2, H3, H4, H5, H6⟩, Hwork, ⟨%W', Ho⟩⟩
    isplitl [Hwork Hp Hrest]
    · isplitl [Hwork]
      · iexists _; isplitr; swap; · iexact Hwork
        ipureintro
        have e := (congrArg (fill (iblk V c 0 t) (hblk V c t)) hcl).trans hS.symm
        exact ⟨congrArg Tabs.out e, fun _ => e⟩
      isplitl [Hp]; · iexact Hp
      iexact Hrest
    isplitl [Ho]
    · iexists W'; isplitr; · ipureintro; exact fun _ _ => Or.inl trivial
      iexact Ho
    isplitl [H0]; · iexact H0
    isplitl [H1]; · iexact H1
    isplitl [H2]; · iexact H2
    isplitl [H3]; · iexact H3
    isplitl [H4]; · iexact H4
    isplitl [H5]; · iexact H5
    iexact H6
  · have hst : s = St V c t.val := hs2 h0
    subst hst
    by_cases hl : t.val % 16 = 15
    · rw [if_pos hl] at hS
      iapply (body_last c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (Memref.whole cc1_scratch0) (Memref.isWhole_whole _) (Memref.whole cc1_scratch1) (Memref.isWhole_whole _) (Memref.whole cc1_scratch2) (Memref.isWhole_whole _) (Memref.whole cc1_scratch3) (Memref.isWhole_whole _) (iblk V c 0 t) (iblk V c 1 t) (iblk V c 2 t) (iblk V c 3 t) (iblk V c 4 t) (iblk V c 5 t) (iblk V c 6 t) (iblk_lt V hX c t) (fun h => h0 ((first_iff t).mp h)) ((last_iff t).mpr hl) (St V c t.val) W _)
      isplitl [H0 H1 H2 H3 H4 H5 H6 Hwork Ho]
      · isplitl [H0 H1 H2 H3 H4 H5 H6]
        · unfold wins
          isplitl [H0]; · iexact H0
          isplitl [H1]; · iexact H1
          isplitl [H2]; · iexact H2
          isplitl [H3]; · iexact H3
          isplitl [H4]; · iexact H4
          isplitl [H5]; · iexact H5
          iexact H6
        isplitl [Hwork]; · iexact Hwork
        iexact Ho
      unfold wins
      iintro ⟨⟨H0, H1, H2, H3, H4, H5, H6⟩, Hwork, ⟨%W', Ho⟩⟩
      isplitl [Hwork Hp Hrest]
      · isplitl [Hwork]
        · iexists _; isplitr; swap; · iexact Hwork
          ipureintro
          have e := (congrArg (fun n => finish n (fill (iblk V c 0 t) (hblk V c t) (St V c t.val))) (batch_val t)).trans hS.symm
          exact ⟨congrArg Tabs.out e, fun _ => e⟩
        isplitl [Hp]; · iexact Hp
        iexact Hrest
      isplitl [Ho]
      · iexists W'; isplitr; · ipureintro; exact fun _ _ => Or.inl trivial
        iexact Ho
      isplitl [H0]; · iexact H0
      isplitl [H1]; · iexact H1
      isplitl [H2]; · iexact H2
      isplitl [H3]; · iexact H3
      isplitl [H4]; · iexact H4
      isplitl [H5]; · iexact H5
      iexact H6
    · rw [if_neg hl, if_neg h0] at hS
      iapply (body_mid c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (Memref.whole cc1_scratch0) (Memref.isWhole_whole _) (Memref.whole cc1_scratch1) (Memref.isWhole_whole _) (Memref.whole cc1_scratch2) (Memref.isWhole_whole _) (Memref.whole cc1_scratch3) (Memref.isWhole_whole _) (iblk V c 0 t) (iblk V c 1 t) (iblk V c 2 t) (iblk V c 3 t) (iblk V c 4 t) (iblk V c 5 t) (iblk V c 6 t) (iblk_lt V hX c t) (fun h => h0 ((first_iff t).mp h)) (fun h => hl ((last_iff t).mp h)) (St V c t.val) W _)
      isplitl [H0 H1 H2 H3 H4 H5 H6 Hwork Ho]
      · isplitl [H0 H1 H2 H3 H4 H5 H6]
        · unfold wins
          isplitl [H0]; · iexact H0
          isplitl [H1]; · iexact H1
          isplitl [H2]; · iexact H2
          isplitl [H3]; · iexact H3
          isplitl [H4]; · iexact H4
          isplitl [H5]; · iexact H5
          iexact H6
        isplitl [Hwork]; · iexact Hwork
        iexact Ho
      unfold wins
      iintro ⟨⟨H0, H1, H2, H3, H4, H5, H6⟩, Hwork, ⟨%W', Ho⟩⟩
      isplitl [Hwork Hp Hrest]
      · isplitl [Hwork]
        · iexists _; isplitr; swap; · iexact Hwork
          ipureintro
          have e := hS.symm
          exact ⟨congrArg Tabs.out e, fun _ => e⟩
        isplitl [Hp]; · iexact Hp
        iexact Hrest
      isplitl [Ho]
      · iexists W'; isplitr; · ipureintro; exact fun _ _ => Or.inl trivial
        iexact Ho
      isplitl [H0]; · iexact H0
      isplitl [H1]; · iexact H1
      isplitl [H2]; · iexact H2
      isplitl [H3]; · iexact H3
      isplitl [H4]; · iexact H4
      isplitl [H5]; · iexact H5
      iexact H6

/-- The body the table names at point `t`'s slots. -/
theorem defs₀_row (t : Fin cfg1.N) :
    defs₀ (F := F) .tc cfg1.body (cfg1.bodyArgs t (cfg1.slots t)) = bodyAt1 t := by
  unfold defs₀; rw [Defs.onTc_tc]

include hX in
/-- The body meets its obligation at every point. -/
theorem body_obligation (c : Dev nD) : BodyObligation (dat V c) (defs₀ (F := F)) Variants.none () Set.univ := fun t => by
  rw [bigSep_W1, bigSep_W1, defs₀_row]
  exact triple_restated (sound_body V hX c t) rfl .rfl fun _ => .rfl

end Cert.KernelIdeal.Scatter

end
-- ==== Proof.Index.lean ====
/- The cell numbers the scatter kernel is handed: each below the number of cells, whatever the arguments hold. -/
module

public import proofs.«01_k».proof.Proof.Gen.KernelIdeal.Regions
public import Idealize.ShloMosaic.Lib.WordCmp
public import Idealize.ShloMosaic.Lib.StableHlo.RunRead
public import Idealize.ShloMosaic.Lib.PointwiseCore
public import Idealize.ShloMosaic.Lib.Claim
public import Idealize.ShloMosaic.Lib.WordArith

@[expose] public section

set_option maxRecDepth 16384

noncomputable section

namespace Cert.KernelIdeal.Host

open Idealize.ShloMosaic Idealize.ShloMosaic.TcCoe Idealize.ShloMosaic.Tactic
open Cert.KernelIdeal Cert.KernelIdeal.Gen

variable {F : FTy → Type} [FloatOps F]

/-- A coordinate word clipped to the 32 cells of an axis. -/
def clip32 (w : BitVec 32) : BitVec 32 := IntOp.minsi 31#32 (IntOp.maxsi 0#32 w)

/-- A clipped word is below 32. -/
theorem clip32_lt (w : BitVec 32) : (clip32 w).toNat < 32 := by
  have h : 2 * (IntOp.maxsi 0#32 w).toNat < 2 ^ 32 := WordArith.two_mul_toNat_maxsi_zero_lt w
  unfold clip32
  rw [WordArith.toNat_minsi_of_lt _ _ (by decide) (by omega)]
  have : (31#32 : BitVec 32).toNat = 31 := by decide
  omega

/-- The cell number made of the three axes' words. -/
def cellWord (a b d : BitVec 32) : BitVec 32 := clip32 a * 1024#32 + clip32 b * 32#32 + clip32 d

/-- The cell number as a natural number. -/
theorem cellWord_toNat (a b d : BitVec 32) :
    (cellWord a b d).toNat = (clip32 a).toNat * 1024 + (clip32 b).toNat * 32 + (clip32 d).toNat := by
  have ha := clip32_lt a
  have hb := clip32_lt b
  have hd := clip32_lt d
  unfold cellWord
  generalize clip32 a = a' at *
  generalize clip32 b = b' at *
  generalize clip32 d = d' at *
  simp only [BitVec.toNat_add, BitVec.toNat_mul, BitVec.toNat_ofNat]
  omega

theorem cellWord_lt (a b d : BitVec 32) : (cellWord a b d).toNat < 32768 := by
  have ha := clip32_lt a
  have hb := clip32_lt b
  have hd := clip32_lt d
  rw [cellWord_toNat]
  omega

variable (m : (ℓ : Loc nD τ sig) → Buf (Elt F) ℓ) (outs : Outs (F := F)) (c : Dev nD)

/-- The rounded coordinates. -/
def rounded : S4x3x65536.Idx → BitVec 32 := V3 m c (Proc.devRef .tc main_v3)

/-- The clipped coordinates. -/
def clipped : S4x3x65536.Idx → BitVec 32 := V4 m c (Proc.devRef .tc main_v4)

theorem clipped_eq (y : S4x3x65536.Idx) : clipped m c y = clip32 (rounded m c y) := by
  unfold clipped rounded
  unfold_abbrev_sides
  after_reads_simp
  idx_vars y
  pointwise
  rfl

/-- The cell numbers. -/
theorem v16_eq (b : Fin 4) (n : Fin 65536) : (V5 m c (Proc.devRef .tc main_v16) : S4x65536.Idx → BitVec 32) (ix2 b n)
    = cellWord (rounded m c (ix3 b 0 n)) (rounded m c (ix3 b 1 n)) (rounded m c (ix3 b 2 n)) := by
  have h : (V5 m c (Proc.devRef .tc main_v16) : S4x65536.Idx → BitVec 32) (ix2 b n)
      = clipped m c (ix3 b 0 n) * 1024#32
        + clipped m c (ix3 b 1 n) * 32#32
        + clipped m c (ix3 b 2 n) := by
    unfold clipped
    unfold_abbrev_sides
    after_reads_simp
    pointwise
    rfl
  rw [h, clipped_eq, clipped_eq, clipped_eq]
  rfl

/-- The cell numbers as the scatter region's windows cut them. -/
theorem v30_eq (g : Fin 64) (k : Fin 4096) : (V7 m outs c (Proc.devRef .tc main_v30) : S64x1x4096.Idx → BitVec 32) (ix3 g 0 k)
    = (V5 m c (Proc.devRef .tc main_v16) : S4x65536.Idx → BitVec 32) (ix2 ⟨g.val / 16, by omega⟩ ⟨g.val % 16 * 4096 + k.val, by omega⟩) := by
  have h : (V7 m outs c (Proc.devRef .tc main_v30) : S64x1x4096.Idx → BitVec 32)
      = shapeCast S64x1x4096 (V6 m outs c (Proc.devRef .tc main_v16) : S4x65536.Idx → BitVec 32) shapeCasts_S4x65536_S64x1x4096 := by
    unfold_abbrev_sides
    after_reads_simp
    rfl
  rw [h, V6_of m outs c main_v16 (by decide)]
  pointwise

/-- Each word the scatter region's index window reads is below the number of cells. -/
theorem index_lt (y : S64x1x4096.Idx) : ((V7 m outs c (Proc.devRef .tc main_v30) : S64x1x4096.Idx → BitVec 32) y).toNat < 32768 := by
  obtain ⟨a, b, d, rfl⟩ : ∃ (a : Fin 64) (b : Fin 1) (d : Fin 4096), y = ix3 a b d := ⟨y 0, y 1, y 2, eq_ix3 y⟩
  have hb : b = 0 := Subsingleton.elim _ _
  subst hb
  rw [v30_eq, v16_eq]
  exact cellWord_lt _ _ _

end Cert.KernelIdeal.Host

end
-- ==== Proof.Run.lean ====
/- The whole program's run: the two regions' records, and every buffer the claims read at its end. -/
module

public import proofs.«01_k».proof.Proof.Region0
public import proofs.«01_k».proof.Proof.Region1
public import proofs.«01_k».proof.Proof.Index
public import Idealize.ShloMosaic.Lib.Pipeline.RegionArraysS
public import Idealize.ShloMosaic.Lib.Pipeline.RegionArraysD

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

/-- What the statistics region leaves. -/
def outs0 : Outs (F := F) := fun _ r c => Pipeline.afterRegion (Stats.dat (V5 m) c) (V5 m c) (Proc.devRef .tc r)

/-- Every unscoped buffer as the scatter region finds it. -/
def W7 (c : Dev nD) : Valuation τ sig (Elt F) := V7 m (outs0 m) c

/-- Every unscoped buffer as the scatter region leaves it. -/
def W8 (c : Dev nD) : Valuation τ sig (Elt F) :=
  Function.update (W7 m c) main_v31 (Scatter.St (W7 m) c 64).out

/-- What the two regions leave. -/
def outs : Outs (F := F) := fun J r c => if J = 8 then W8 m c (Proc.devRef .tc r) else outs0 m J r c

theorem V7_eq (c : Dev nD) : V7 m (outs m) c = W7 m c := rfl

theorem V8_eq (c : Dev nD) : V8 m (outs m) c = W8 m c := by
  have e : outs m 8 main_v31 c = (Scatter.St (W7 m) c 64).out := by
    unfold outs W8
    rw [if_pos rfl, Function.update_self]
  unfold W8
  show Function.update (V7 m (outs m) c) main_v31 (outs m 8 main_v31 c) = _
  rw [e, V7_eq]

/-- The words of the index window stay below the number of cells. -/
theorem index_lt (c : Dev nD) (y : S64x1x4096.Idx) :
    ((W7 m c (Proc.devRef .tc main_v30) : S64x1x4096.Idx → BitVec 32) y).toNat < 32768 :=
  Host.index_lt m (outs0 m) c y

/-- The two regions' data. -/
def pdats : (p : Fin 2) → (c : Dev nD) → Dat τ (Elt F) Unit ℕ (Pipeline.UD sig nD τ) ℕ (cfgs p) c
  | ⟨0, _⟩ => Stats.dat (V5 m)
  | ⟨1, _⟩ => Scatter.dat (W7 m)

/-- One cell index per semaphore of a tensor core. -/
def cells : GSem nD τ sig → Finset Unit := fun g => if g.1.2 = .tc then {()} else ∅

/-- Every level is zero. -/
def level : GSem nD τ sig → Unit → ℕ := fun _ _ => 0

theorem cells_off (g : GSem nD τ sig) (h : g.1.2 ≠ .tc) : cells g = ∅ := if_neg h

theorem cut (p : Fin 2) : Pipeline.LevelCut (pcfgs (F := F)) adm () cells level p (fun _ => 0) (fun _ => (0 : ℕ)) where
  hι c w s := by unfold cells; rw [if_pos rfl]; exact Finset.mem_singleton_self _
  hιb c w s := le_refl _
  hD c g i h := absurd h (lt_irrefl _)

/-- What a core keeps between items beside its buffers. -/
def rest (c : Dev nD) : sProp 𝕄 := iprop((∃ r, prngReg c r) ∗ ∃ W, owes (c : Thread nD τ) (0 : CellTallies nD τ sig Unit) W)

/-- The statistics region's record. -/
def R0 : RegionSeg (pcfgs (F := F)) adm (pdats m) () defs₀ Variants.none cells level 0 :=
  RegionSeg.ofHeldIn pcfgs adm (pdats m) () defs₀ Variants.none cells level 0 (fun _ => 0) (Pipeline.ucRefs τ sig)
    (fun c => iprop(∃ r, prngReg c r)) (fun c => iprop(∃ r, prngReg c r)) launch0.toP rfl
    (fun c => (Stats.body_obligation (V5 m) c).loose) (fun _ _ => rfl) (fun _ => rfl)
    (fun c => (Stats.dat (V5 m) c).share_full fun _ => rfl)
    (fun c => .rfl) (fun c => .rfl) (fun _ => 0) (cut 0) (fun _ => BI.emp) (V5 m) (fun c w => Stats.A_eq (V5 m) c w)

theorem arrs0_sub : Pipeline.arrRefs (τ := τ) spec0 ⊆ Pipeline.ucRefs τ sig :=
  Pipeline.arrRefs_sub_ucRefs _ (by decide)

theorem pre0 (c : Dev nD) :
    iprop(StableHlo.held (c : Thread nD τ) (Pipeline.ucRefs τ sig) (V5 m c) ∗ rest c) ⊢ ((R0 m).pre c : sProp 𝕄) := by
  refine BI.BIBase.Entails.trans ?_ (RegionSeg.ofHeldIn_pre arrs0_sub c)
  unfold rest
  iintro ⟨Hh, Hp, Ho⟩
  isplitl [Hh]; · iexact Hh
  isplitl [Ho]; · iexact Ho
  isplitl [Hp]; · iexact Hp
  iempintro

/-- The statistics region changes the sums' array only. -/
theorem after0 (c : Dev nD) : ∀ b ∈ Pipeline.ucRefs τ sig, Pipeline.afterRegion (Stats.dat (V5 m) c) (V5 m c) b = V6 m (outs m) c b := by
  intro b hb
  obtain ⟨r, -, rfl⟩ := Finset.mem_map.mp (Finset.mem_filter.mp hb).1
  by_cases hr : r = main_v18
  · subst hr
    exact (Function.update_self (Proc.devRef .tc main_v18 : DevRef τ sig) _ (V5 m c)).symm
  · refine (Pipeline.afterRegion_keeps _ _ launch0.win.arr_inj (fun w => Stats.A_eq (V5 m) c w) r fun w hw => ?_).trans (V6_of m (outs m) c r (by simpa using hr)).symm
    subst hw
    revert w hr
    decide

theorem post0 (c : Dev nD) :
    ((R0 m).post c : sProp 𝕄) ⊢ iprop(StableHlo.held (c : Thread nD τ) (Pipeline.ucRefs τ sig) (V6 m (outs m) c) ∗ rest c) := by
  refine BI.BIBase.Entails.trans (RegionSeg.ofHeldIn_post arrs0_sub c) ?_
  rw [show pdats m 0 c = Stats.dat (V5 m) c from rfl, StableHlo.held_congr (c : Thread nD τ) (after0 m c)]
  unfold rest
  iintro ⟨Hh, Ho, Hp, -⟩
  isplitl [Hh]; · iexact Hh
  isplitl [Hp]; · iexact Hp
  iexact Ho

/-- The scatter kernel's own semaphore. -/
abbrev osem1 : Fin 1 → SemLoc sig := fun j => (![SemLoc.dma 17] : Fin 1 → SemLoc sig) j

theorem ownSemFacts1 : Pipeline.OwnSemFacts spec1 osem1 := by decide

theorem ownSems01_eq (c : Dev nD) : (Pipeline.ownSems0 (τ := τ) (Ix := Unit) (Val := Elt F) (Name := ℕ) (U := Pipeline.UD sig nD τ) (Lvl := ℕ) osem1 c : sProp 𝕄)
    = iprop(semVal ((c : Thread nD τ), SemLoc.dma 17) 0) := by
  rw [Pipeline.ownSems0_eq_of_list c osem1 [0] (by decide) (by decide)]; rfl

/-- The array the scatter kernel writes by its own copies. -/
abbrev writ : Finset (Ref sig .tc) := {main_v31}

abbrev others : Finset (DevRef τ sig) := Pipeline.ucRefs τ sig \ Pipeline.arrRefs (τ := τ) spec1

theorem arrs1_sub : Pipeline.arrRefs (τ := τ) spec1 ⊆ Pipeline.ucRefs τ sig :=
  Pipeline.arrRefs_sub_ucRefs _ (by decide)

theorem writ_sub : Pipeline.hbmRefs (τ := τ) writ ⊆ others \ Pipeline.hbmRefs (τ := τ) ∅ := by
  decide

theorem enter1 (c : Dev nD) :
    iprop(Pipeline.scopedRest spec1 c ∗ (∃ r, prngReg c r) ∗ Pipeline.ownSems0 osem1 c
      ∗ (bigSep (∅ : Finset (Ref sig .tc)) fun b => ((c.tc : Thread nD τ).loc b) ↦{fullShare} W7 m c (Proc.devRef .tc b))
      ∗ (bigSep writ fun b => ((c.tc : Thread nD τ).loc b) ↦{fullShare} W7 m c (Proc.devRef .tc b))
      ∗ Transfers.MayWaits (c : Thread nD τ) () 0) ⊢ (Scatter.Inv (W7 m) c 0 : sProp 𝕄) := by
  rw [scopedRest1_eq, ownSems01_eq, bigSep_singleton]
  unfold Scatter.Inv Scatter.other
  iintro ⟨⟨G0, G1, G2, G3, G4, G5, G6, S0, ⟨%f1, S1⟩, ⟨%f2, S2⟩, ⟨%f3, S3⟩⟩, Hp, Hs, -, Hv, -⟩
  isplitl [S0 S1 S2 S3 Hs Hv]
  · iexists (⟨f1, f2, f3, W7 m c (Proc.devRef .tc main_v31)⟩ : Scatter.Tabs F)
    isplitr
    · ipureintro
      exact ⟨rfl, fun h => absurd rfl h⟩
    simp only [Scatter.work, owns_whole]
    isplitl [S0]; · iexact S0
    isplitl [S1]; · iexact S1
    isplitl [S2]; · iexact S2
    isplitl [S3]; · iexact S3
    isplitl [Hs]; · iexact Hs
    iexact Hv
  isplitl [Hp]; · iexact Hp
  isplitl [G0]; · iexact G0
  isplitl [G1]; · iexact G1
  isplitl [G2]; · iexact G2
  isplitl [G3]; · iexact G3
  isplitl [G4]; · iexact G4
  isplitl [G5]; · iexact G5
  iexact G6

theorem leave1 (c : Dev nD) :
    (Scatter.Inv (W7 m) c 64 : sProp 𝕄) ⊢ iprop(Pipeline.scopedRest spec1 c ∗ (∃ r, prngReg c r) ∗ Pipeline.ownSems0 osem1 c
      ∗ (bigSep (∅ : Finset (Ref sig .tc)) fun b => ((c.tc : Thread nD τ).loc b) ↦{fullShare} W7 m c (Proc.devRef .tc b))
      ∗ (bigSep writ fun b => ((c.tc : Thread nD τ).loc b) ↦{fullShare} W8 m c (Proc.devRef .tc b))) := by
  have e : W8 m c (Proc.devRef .tc main_v31) = (Scatter.St (W7 m) c 64).out := Function.update_self _ _ _
  rw [scopedRest1_eq, ownSems01_eq, bigSep_singleton, bigSep_empty]
  unfold Scatter.Inv Scatter.other
  simp only [Scatter.work, owns_whole]
  iintro ⟨⟨%s, %hs, S0, S1, S2, S3, Hs, Hv⟩, Hp, G0, G1, G2, G3, G4, G5, G6⟩
  isplitl [S0 S1 S2 S3 G0 G1 G2 G3 G4 G5 G6]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [S0]; · iexact S0
    isplitl [S1]; · iexists _; iexact S1
    isplitl [S2]; · iexists _; iexact S2
    iexists _; iexact S3
  isplitl [Hp]; · iexact Hp
  isplitl [Hs]; · iexact Hs
  isplitr; · iempintro
  rw [e, ← hs.1]
  iexact Hv

/-- The scatter region changes the result array only. -/
theorem W8_of (c : Dev nD) (r : Ref sig .tc) (h : r ≠ main_v31) : W8 m c (Proc.devRef .tc r) = W7 m c (Proc.devRef .tc r) :=
  Function.update_of_ne (StableHlo.devRef_ne_of_ne h) _ _

/-- Every window of the scatter region is an input. -/
theorem ins1 : ∀ w : Fin cfg1.W, (cfg1.win w).isOut = false := by decide

theorem arrs1_ne : ∀ w : Fin 7, Pipeline.arrRef spec1 w ≠ main_v31 := by decide

/-- The scatter region's record. -/
def R1 : RegionSeg (pcfgs (F := F)) adm (pdats m) () defs₀ Variants.none cells level 1 :=
  RegionSeg.ofHeldDW pcfgs adm (pdats m) () defs₀ Variants.none cells level 1 (fun _ => 0) () osem1 ownSemFacts1 ∅ writ (others)
    (Finset.empty_subset _) writ_sub launch1.toP rfl
    (fun c => (Scatter.body_obligation (W7 m) (index_lt m) c).loose) (fun _ _ => rfl) (fun _ => rfl)
    (fun c => (Scatter.dat (W7 m) c).share_full fun _ => rfl)
    (fun c => BI.BIBase.Entails.trans (by iintro -; iempintro) (Transfers.MayWaits.zero (c : Thread nD τ) ()))
    (W7 m) (W8 m)
    (fun c b hb => Function.update_of_ne (fun e => (Finset.mem_sdiff.mp hb).2 (by rw [e]; decide)) _ _)
    (fun c => enter1 m c) (fun c => leave1 m c) (fun _ => 0) (cut 1) (fun _ => BI.emp)
    (fun c w => Scatter.A_eq (W7 m) c w)
    (fun c w => ((Scatter.dat (W7 m) c).arrAt_in w (ins1 w) _).trans
      ((Scatter.A_eq (W7 m) c w).trans (W8_of m c _ (arrs1_ne w)).symm))

theorem pre1 (c : Dev nD) :
    iprop(StableHlo.held (c : Thread nD τ) (Pipeline.ucRefs τ sig) (V7 m (outs m) c) ∗ rest c) ⊢ ((R1 m).pre c : sProp 𝕄) := by
  show _ ⊢ iprop(StableHlo.held (c.tc : Thread nD τ) (Pipeline.arrRefs spec1) (W7 m c) ∗ (∃ r, prngReg c r)
    ∗ (StableHlo.held (c.tc : Thread nD τ) (others) (W7 m c) ∗ BI.emp) ∗ ∃ Wd, owes (c : Thread nD τ) (0 : CellTallies nD τ sig Unit) Wd)
  rw [V7_eq, StableHlo.held_sub_split (c.tc : Thread nD τ) arrs1_sub (W7 m c)]
  unfold rest
  iintro ⟨⟨Ha, Hr⟩, Hp, Ho⟩
  isplitl [Ha]; · iexact Ha
  isplitl [Hp]; · iexact Hp
  isplitl [Hr]
  · isplitl [Hr]; · iexact Hr
    iempintro
  iexact Ho

theorem post1 (c : Dev nD) :
    ((R1 m).post c : sProp 𝕄) ⊢ iprop(StableHlo.held (c : Thread nD τ) (Pipeline.ucRefs τ sig) (V8 m (outs m) c) ∗ rest c) := by
  show iprop(StableHlo.held (c.tc : Thread nD τ) (Pipeline.arrRefs spec1) (W8 m c) ∗ (∃ r, prngReg c r)
    ∗ (StableHlo.held (c.tc : Thread nD τ) (others) (W8 m c) ∗ BI.emp) ∗ ∃ Wd, owes (c : Thread nD τ) (0 : CellTallies nD τ sig Unit) Wd) ⊢ _
  rw [V8_eq, StableHlo.held_sub_split (c.tc : Thread nD τ) arrs1_sub (W8 m c)]
  unfold rest
  iintro ⟨Ha, Hp, ⟨Hr, -⟩, Ho⟩
  isplitl [Ha Hr]
  · isplitl [Ha]; · iexact Ha
    iexact Hr
  isplitl [Hp]; · iexact Hp
  iexact Ho

/-- The launch gives each core what it keeps. -/
theorem launch_rest (ρ : Dev nD → PrngReg) :
    iprop((bigSep Finset.univ fun c : Dev nD => iprop(unscopedSems0 c ∗ owes (c : Thread nD τ) (0 : CellTallies nD τ sig Unit) ∅ ∗ Pipeline.launchCred (fun _ => 0) c ∗ prngReg c (ρ c) ∗ BI.emp)) ∗ levAts cells level)
      ⊢ (|={Set.univ}=> bigSep Finset.univ (fun c => rest c) : sProp 𝕄) := by
  have h : (bigSep Finset.univ fun c : Dev nD => iprop(unscopedSems0 c ∗ owes (c : Thread nD τ) (0 : CellTallies nD τ sig Unit) ∅ ∗ Pipeline.launchCred (fun _ => 0) c ∗ prngReg c (ρ c) ∗ BI.emp))
      ⊢ (bigSep Finset.univ (fun c => rest (F := F) c) : sProp 𝕄) :=
    bigSep_mono fun c _ => by
      show (iprop(unscopedSems0 c ∗ owes (c : Thread nD τ) (0 : CellTallies nD τ sig Unit) ∅ ∗ Pipeline.launchCred (fun _ => 0) c ∗ prngReg c (ρ c) ∗ BI.emp) : sProp 𝕄) ⊢ rest c
      unfold rest
      iintro ⟨-, Ho, -, Hp, -⟩
      isplitl [Hp]; · iexists _; iexact Hp
      iexists _; iexact Ho
  iintro ⟨H, -⟩
  imodintro
  iapply h
  iexact H

set_option backward.isDefEq.respectTransparency.types false in
/-- Every run ends with the arguments as launched, the result array at the last valuation and every semaphore at zero. -/
theorem run (ρ : Dev nD → PrngReg) :
    θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.mem ((c.tc : Thread nD τ).loc main_v33) = V9 m (outs m) c (Proc.devRef .tc main_v33))
      ∧ r.2.sem = fun _ => 0) := by
  have hu₀ : (ownU (initOf (Pipeline.cells cfgs cellOf_inj) (Pipeline.launchToks cfgs cellOf_inj), 1) : sProp 𝕄)
      ⊢ |={Set.univ}=> iprop(BI.own (embL (initOf (Pipeline.cells cfgs cellOf_inj) (Pipeline.launchToks cfgs cellOf_inj)))
        ∗ bigSep Finset.univ fun _ : Dev nD => (BI.emp : sProp 𝕄)) := by
    iintro Hu
    ihave H' := (ownU_pair _ _) $$ Hu
    icases H' with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  refine Pipeline.θ_run_regions_kit_dev_sems (pcfgs (F := F)) adm (pdats m) () cellOf_inj embL defs₀ Variants.none cells level m ρ main
    (segs m (outs m) Variants.none cells level (fun _ c => rest c) () (pdats m) (R0 m) (R1 m))
    (fun c Q => by
      rewrite [main_chain c, Seg.run_eq_chain,
        show (segs m (outs m) Variants.none cells level (fun _ c => rest c) () (pdats m) (R0 m) (R1 m) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) cells_off (fun _ => BI.emp)
    (initOf (Pipeline.cells cfgs cellOf_inj) (Pipeline.launchToks cfgs cellOf_inj), 1) hu₀
    (T₀ := fun c => iprop(StableHlo.held (c : Thread nD τ) (Pipeline.ucRefs τ sig) (V0 m c) ∗ rest c))
    (Tₙ := fun c => StableHlo.held (c : Thread nD τ) (Pipeline.ucRefs τ sig) (V9 m (outs m) c))
    (hch := fun c => ⟨.rfl, .rfl, .rfl, .rfl, .rfl, pre0 m c, post0 m c, pre1 m c, post1 m c, sep_mono .rfl (by unfold rest; iintro ⟨-, H⟩; iexact H)⟩)
    (hinit := ?_) (QY := fun c s => (s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3)) ∧ s.mem ((c.tc : Thread nD τ).loc main_v33) = V9 m (outs m) c (Proc.devRef .tc main_v33))
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred (fun _ => 0) c ∗ prngReg c (ρ c) ∗ BI.emp))
            : sProp 𝕄) := by
      rw [← bigSep_sep']
      exact bigSep_mono fun c _ => by rw [← Pipeline.unscopedBufs_held (Ix := Unit) (Name := ℕ) (U := Pipeline.UD sig nD τ) (Lvl := ℕ) c (V0 m c)]; exact BI.Entails.refl _
    iintro ⟨H, Hla⟩
    ihave H' := hsplit $$ H
    icases H' with ⟨Hh, Hr⟩
    imod (launch_rest (F := F) ρ) $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V9 m (outs m) c) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans (V9_main_arg0 m (outs m) c),
        (h (Proc.devRef .tc main_arg1) (Finset.mem_filter.mpr ⟨StableHlo.devRef_mem_tcRefs main_arg1, by decide⟩)).trans (V9_main_arg1 m (outs m) c),
        (h (Proc.devRef .tc main_arg2) (Finset.mem_filter.mpr ⟨StableHlo.devRef_mem_tcRefs main_arg2, by decide⟩)).trans (V9_main_arg2 m (outs m) c),
        (h (Proc.devRef .tc main_arg3) (Finset.mem_filter.mpr ⟨StableHlo.devRef_mem_tcRefs main_arg3, by decide⟩)).trans (V9_main_arg3 m (outs m) c)⟩,
        h (Proc.devRef .tc main_v33) (Finset.mem_filter.mpr ⟨StableHlo.devRef_mem_tcRefs main_v33, by decide⟩)⟩
    · iexact HSI

end Cert.KernelIdeal.Whole

end
-- ==== Proof.Frames.lean ====
/- The two kernel programs' frames, from the whole program's run. -/
module

public import proofs.«01_k».proof.Defs
public import proofs.«01_k».proof.Proof.Run
public import proofs.«01_k».proof.Proof.Gen.Kernel

@[expose] public section

set_option maxRecDepth 16384

noncomputable section

namespace Cert.Proof

open Idealize.ShloMosaic Idealize.ShloMosaic.TcCoe Idealize.ShloMosaic.Tactic Idealize.SL.Sem

/-- The idealized kernel's frame. -/
theorem frame_ideal : Cert.quiescent_KernelIdeal (hKernelIdeal := Cert.KernelIdeal.Gen.facts) := fun m g _ =>
  (Cert.KernelIdeal.Whole.run m g).mono fun r h => ⟨fun c => (h.1 c).1, h.2⟩

open Cert.KernelIdeal in
/-- What the idealized kernel's text is proved to do when its floats are words. -/
def WordFrame : Prop :=
  ∀ (m : (ℓ : Loc nD τ sig) → Buf (Elt Bits) ℓ) (g : Dev nD → PrngReg),
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

theorem wordFrame : WordFrame := fun m g =>
  (Cert.KernelIdeal.Whole.run m g).mono fun r h => ⟨fun c => (h.1 c).1, h.2⟩

open Cert.Kernel in
/-- The same of the kernel. -/
def WordFrame' : Prop :=
  ∀ (m : (ℓ : Loc nD τ sig) → Buf (Elt Bits) ℓ) (g : Dev nD → PrngReg),
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

/-- The kernel and its idealization are one text. -/
theorem text_eq : WordFrame' = WordFrame := by sl_kernel_rfl

/-- The kernel's frame. -/
theorem frame_bits : Cert.quiescent_Kernel (hKernel := Cert.Kernel.Gen.facts) := fun m g _ =>
  (text_eq.mpr wordFrame : WordFrame') m g

end Cert.Proof

end
-- ==== Proof.Reference.lean ====
/- The reference's frame. -/
module

public import proofs.«01_k».proof.Defs
public import proofs.«01_k».proof.Proof.Gen.ReferenceIdeal
public import proofs.«01_k».proof.Proof.Gen.ReferenceIdeal.Run
public import Idealize.ShloMosaic.Lib.Quiescent

@[expose] public section

set_option maxRecDepth 16384

noncomputable section

namespace Cert.Proof

open Idealize.ShloMosaic Idealize.SL.Sem Cert.ReferenceIdeal Cert.ReferenceIdeal.Gen

/-- The reference runs, leaves its arguments and ends with its counters at zero. -/
theorem frame_ref : Cert.quiescent_ReferenceIdeal (hReferenceIdeal := Cert.ReferenceIdeal.Gen.facts) := fun m g _ =>
  (Cert.ReferenceIdeal.Value.run m g).mono fun r h =>
    ⟨fun c => (h c).2, sem_eq_zero_of_no_sems (by decide) _⟩

end Cert.Proof

end
-- ==== Proof.Norm.lean ====
/- The arithmetic of the normalisation over the reals, and its constants. -/
module

public import Idealize.ShloMosaic.PureOps
public import Idealize.ShloMosaic.Lib.IdealHost

@[expose] public section

noncomputable section

namespace Cert.Norm

open Idealize.ShloMosaic

/-- The number of points, as its float. -/
theorem count_bits : Ideal.ofBits .f32 0x48800000#32 = ((262144 : ℝ) : EReal) := by
  simp [Ideal.ofBits, Ideal.ieee]
  norm_cast
  norm_num

/-- The scale of the grid's coordinates, as its float. -/
theorem scale_bits : Ideal.ofBits .f32 0x41F80000#32 = ((31 : ℝ) : EReal) := by
  simp [Ideal.ofBits, Ideal.ieee]
  norm_cast
  norm_num

/-- The grid's side, as its float. -/
theorem side_bits : Ideal.ofBits .f32 0x42000000#32 = ((32 : ℝ) : EReal) := by
  simp [Ideal.ofBits, Ideal.ieee]
  norm_cast
  norm_num

/-- The small number that is added to a variance. -/
def eps : ℝ := (10995116 : ℝ) * (2 : ℝ) ^ (-40 : ℤ)

theorem eps_pos : 0 < eps := by unfold eps; positivity

theorem eps_bits : Ideal.ofBits .f32 0x3727C5AC#32 = (eps : EReal) := by
  simp [Ideal.ofBits, Ideal.ieee, eps]

/-- The word of `-∞`. -/
theorem bot_bits : Ideal.ofBits .f32 0xFF800000#32 = (⊥ : EReal) := by
  simp [Ideal.ofBits, Ideal.ieee]

/-- The word of `+∞`. -/
theorem top_bits : Ideal.ofBits .f32 0x7F800000#32 = (⊤ : EReal) := by
  simp [Ideal.ofBits, Ideal.ieee]

theorem div_real (x y : ℝ) (hy : y ≠ 0) : Ideal.div (x : EReal) (y : EReal) = ((x / y : ℝ) : EReal) := by
  have h : (y : EReal) ≠ 0 := by exact_mod_cast hy
  rw [Ideal.div, if_neg h, div_eq_mul_inv, EReal.coe_mul, EReal.coe_inv]

theorem sqrt_real (x : ℝ) (hx : 0 ≤ x) : Ideal.sqrt (x : EReal) = ((Real.sqrt x : ℝ) : EReal) := by
  show (if x < 0 then (⊥ : EReal) else (Real.sqrt x : EReal)) = _
  rw [if_neg (not_lt.mpr hx)]

theorem rsqrt_real (x : ℝ) (hx : 0 < x) : Ideal.rsqrt (x : EReal) = (((Real.sqrt x)⁻¹ : ℝ) : EReal) := by
  show (if x < 0 then (⊥ : EReal) else if x = 0 then ⊤ else (((Real.sqrt x)⁻¹ : ℝ) : EReal)) = _
  rw [if_neg (not_lt.mpr hx.le), if_neg hx.ne']

theorem sum_real {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A batch and a point of it. -/
abbrev Pt : Type := Fin 4 × Fin 65536

/-- The mean over all points. -/
def mean (h : Pt → ℝ) : ℝ := (∑ p, h p) / 262144

/-- The variance over all points. -/
def variance (h : Pt → ℝ) : ℝ := (∑ p, (h p - mean h) * (h p - mean h)) / 262144

theorem variance_nonneg (h : Pt → ℝ) : 0 ≤ variance h :=
  div_nonneg (Finset.sum_nonneg fun _ _ => mul_self_nonneg _) (by norm_num)

/-- The mean of the squares less the square of the mean is the variance. -/
theorem variance_eq (h : Pt → ℝ) : (∑ p, h p * h p) / 262144 - mean h * mean h = variance h := by
  have hs : ∑ p, h p = 262144 * mean h := by unfold mean; ring
  have hc : ∑ _p : Pt, mean h * mean h = 262144 * (mean h * mean h) := by
    rw [Finset.sum_const, Finset.card_univ, Fintype.card_prod, Fintype.card_fin, Fintype.card_fin, nsmul_eq_mul]
    norm_num
  have e : ∑ p, (h p - mean h) * (h p - mean h) = ∑ p, h p * h p - 262144 * (mean h * mean h) := by
    have : ∀ p, (h p - mean h) * (h p - mean h) = h p * h p - 2 * mean h * h p + mean h * mean h := fun p => by ring
    rw [Finset.sum_congr rfl fun p _ => this p, Finset.sum_add_distrib, Finset.sum_sub_distrib, ← Finset.mul_sum, hs, hc]
    ring
  unfold variance
  rw [e]
  ring

/-- What a feature is normalised to. -/
def normal (h : Pt → ℝ) (p : Pt) : ℝ := (h p - mean h) * (Real.sqrt (variance h + eps))⁻¹

end Cert.Norm

end
-- ==== Proof.RefValue.lean ====
/- The reference's result, read at an index. -/
module

public import proofs.«01_k».proof.Proof.Gen.ReferenceIdeal.Run
public import proofs.«01_k».proof.Proof.Norm
public import proofs.«01_k».proof.Proof.Index
public import Idealize.ShloMosaic.Lib.Pointwise

@[expose] public section

set_option maxRecDepth 16384

noncomputable section

namespace Cert.ReferenceIdeal.Read

open Idealize.ShloMosaic Idealize.ShloMosaic.TcCoe Idealize.SL.Sem Cert.ReferenceIdeal Cert.ReferenceIdeal.Gen
open Cert.ReferenceIdeal.Facts

/-- The features after the product, the bias and the cut at zero. -/
def hid (X : FVec Ideal S4x3x65536 .f32) (P : FVec Ideal S4x128x65536 .f32) (W : FVec Ideal S131x128 .f32)
    (B : FVec Ideal S128 .f32) : FVec Ideal S4x65536x128 .f32 :=
  maximumf (addf (Host.dotGeneral dot_S4x65536x131_S131x128_S4x65536x128_2_0_01_1_n_n none
      (transpose S4x65536x131 [0, 2, 1] (concatenate S4x131x65536 1 [⟨S4x3x65536, X⟩, ⟨S4x128x65536, P⟩]
        concatenates_S4x3x65536_S4x128x65536_S4x131x65536_d1) transposes_S4x131x65536_S4x65536x131_0_2_1) W)
      (broadcastInDim S4x65536x128 ![0, 1, 2] bcast_S1x1x128_S4x65536x128_0_1_2
        (broadcastInDim S1x1x128 ![2] bcast_S128_S1x1x128_2 B)))
    (broadcastInDim S4x65536x128 ![] bcast_S_S4x65536x128 (constant S_ .f32 0x00000000#32))

/-- Each channel's mean. -/
def mean (H : FVec Ideal S4x65536x128 .f32) : FVec Ideal S1x1x128 .f32 :=
  Host.divf (broadcastInDim S1x1x128 ![2] bcast_S128_S1x1x128_2
      (Host.reduceAdd H (constant S_ .f32 0x00000000#32) reducesTo_S4x65536x128_S128_d0_1 h_S_))
    (broadcastInDim S1x1x128 ![] bcast_S_S1x1x128 (constant S_ .f32 0x48800000#32))

/-- The features less their channel's mean. -/
def centred (H : FVec Ideal S4x65536x128 .f32) : FVec Ideal S4x65536x128 .f32 :=
  subf H (broadcastInDim S4x65536x128 ![0, 1, 2] bcast_S1x1x128_S4x65536x128_0_1_2 (mean H))

/-- The number of points. -/
def count : FVec Ideal S_ .f32 := subf (constant S_ .f32 0x48800000#32) (sitofp .f32 (constantI S_ 32 0#32))

/-- Each channel's variance. -/
def variance (H : FVec Ideal S4x65536x128 .f32) : FVec Ideal S1x1x128 .f32 :=
  select (broadcastInDim S1x1x128 ![] bcast_S_S1x1x128 (cmpf .ogt count (constant S_ .f32 0x00000000#32)))
    (Host.divf (broadcastInDim S1x1x128 ![2] bcast_S128_S1x1x128_2
        (Host.reduceAdd (mulf (centred H) (centred H)) (constant S_ .f32 0x00000000#32) reducesTo_S4x65536x128_S128_d0_1 h_S_))
      (broadcastInDim S1x1x128 ![] bcast_S_S1x1x128 count))
    (broadcastInDim S1x1x128 ![] bcast_S_S1x1x128 (id (constant S_ .f32 0x7FC00000#32)))

/-- The normalised features. -/
def normal (H : FVec Ideal S4x65536x128 .f32) : FVec Ideal S4x65536x128 .f32 :=
  Host.divf (centred H) (broadcastInDim S4x65536x128 ![0, 1, 2] bcast_S1x1x128_S4x65536x128_0_1_2
    (Host.sqrt (addf (variance H) (broadcastInDim S1x1x128 ![] bcast_S_S1x1x128 (constant S_ .f32 0x3727C5AC#32)))))

/-- The rounded coordinates as words. -/
def rounded (X : FVec Ideal S4x3x65536 .f32) : IVec S4x65536x3 32 :=
  fptosi 32 (Host.roundeven (mulf (Host.divf (subf (transpose S4x65536x3 [0, 2, 1] X transposes_S4x3x65536_S4x65536x3_0_2_1)
      (broadcastInDim S4x65536x3 ![0, 1, 2] bcast_S1x1x3_S4x65536x3_0_1_2 (broadcastInDim S1x1x3 ![2] bcast_S3_S1x1x3_2
        (constant S3 .f32 0x00000000#32))))
      (broadcastInDim S4x65536x3 ![0, 1, 2] bcast_S1x1x3_S4x65536x3_0_1_2 (broadcastInDim S1x1x3 ![2] bcast_S3_S1x1x3_2
        (subf (constant S3 .f32 0x3F800000#32) (constant S3 .f32 0x00000000#32)))))
    (broadcastInDim S4x65536x3 ![0, 1, 2] bcast_S1x1x3_S4x65536x3_0_1_2 (broadcastInDim S1x1x3 ![2] bcast_S3_S1x1x3_2
      (subf (constant S3 .f32 0x42000000#32) (broadcastInDim S3 ![] bcast_S_S3 (constant S_ .f32 0x3F800000#32)))))))

/-- The rounded coordinates kept in the grid. -/
def clipped (K : IVec S4x65536x3 32) : IVec S4x65536x3 32 :=
  minsi (broadcastInDim S4x65536x3 ![0, 1, 2] bcast_S1x1x3_S4x65536x3_0_1_2 (broadcastInDim S1x1x3 ![2] bcast_S3_S1x1x3_2
      (subi (constantI S3 32 32#32) (broadcastInDim S3 ![] bcast_S_S3 (constantI S_ 32 1#32)))))
    (maxsi (broadcastInDim S4x65536x3 ![] bcast_S_S4x65536x3 (id (constantI S_ 32 0#32))) K)

/-- Each point's voxel. -/
def voxel (K : IVec S4x65536x3 32) : IVec S4x65536 32 :=
  addi (addi
      (muli (shapeCast _ (extractStridedSlice S4x65536x1 ![0, 0, 0] (clipped K) slices_S4x65536x3_S4x65536x1_0_0_0)
          shapeCasts_S4x65536x1_S4x65536)
        (broadcastInDim S4x65536 ![] bcast_S_S4x65536 (constantI S_ 32 1024#32)))
      (muli (shapeCast _ (extractStridedSlice S4x65536x1 ![0, 0, 1] (clipped K) slices_S4x65536x3_S4x65536x1_0_0_1)
          shapeCasts_S4x65536x1_S4x65536)
        (broadcastInDim S4x65536 ![] bcast_S_S4x65536 (constantI S_ 32 32#32))))
    (shapeCast _ (extractStridedSlice S4x65536x1 ![0, 0, 2] (clipped K) slices_S4x65536x3_S4x65536x1_0_0_2)
      shapeCasts_S4x65536x1_S4x65536)

/-- Each voxel's largest normalised feature, `-∞` for a voxel without a point. -/
def largest (I : IVec S4x65536 32) (N : FVec Ideal S4x65536x128 .f32) : FVec Ideal S4x32768x128 .f32 :=
  Host.reduce FloatOps.maximumf
    (select (broadcastInDim S4x32768x65536x128 ![0, 1, 2, 3] bcast_S4x32768x65536x1_S4x32768x65536x128_0_1_2_3
        (cmpi .eq (broadcastInDim S4x32768x65536x1 ![0, 1, 2, 3] bcast_S4x1x65536x1_S4x32768x65536x1_0_1_2_3
            (broadcastInDim S4x1x65536x1 ![0, 2] bcast_S4x65536_S4x1x65536x1_0_2 I))
          (broadcastInDim S4x32768x65536x1 ![0, 1, 2, 3] bcast_S1x32768x1x1_S4x32768x65536x1_0_1_2_3
            (broadcastInDim S1x32768x1x1 ![1] bcast_S32768_S1x32768x1x1_1 (iotaInDim S32768 32 0)))))
      (broadcastInDim S4x32768x65536x128 ![0, 1, 2, 3] bcast_S4x1x65536x128_S4x32768x65536x128_0_1_2_3
        (broadcastInDim S4x1x65536x128 ![0, 2, 3] bcast_S4x65536x128_S4x1x65536x128_0_2_3 N))
      (broadcastInDim S4x32768x65536x128 ![] bcast_S_S4x32768x65536x128 (id (constant S_ .f32 0xFF800000#32))))
    (constant S_ .f32 0xFF800000#32) reducesTo_S4x32768x65536x128_S4x32768x128_d2 h_S_

/-- The same with zero for a voxel without a point. -/
def filled (M : FVec Ideal S4x32768x128 .f32) : FVec Ideal S4x32768x128 .f32 :=
  select (cmpf .oeq M (broadcastInDim S4x32768x128 ![] bcast_S_S4x32768x128 (constant S_ .f32 0xFF800000#32)))
    (broadcastInDim S4x32768x128 ![] bcast_S_S4x32768x128 (id (constant S_ .f32 0x00000000#32))) M

/-- The reference's result is made of these. -/
theorem result_eq (m : (ℓ : Loc nD τ sig) → Buf (Elt Ideal) ℓ) (c : Dev nD) :
    Value.res_main_v62 m c = shapeCast _ (transpose S4x128x32768 [0, 2, 1]
      (filled (largest (voxel (rounded (m ((c.tc : Thread nD τ).loc main_arg0))))
        (normal (hid (m ((c.tc : Thread nD τ).loc main_arg0)) (m ((c.tc : Thread nD τ).loc main_arg1))
          (m ((c.tc : Thread nD τ).loc main_arg2)) (m ((c.tc : Thread nD τ).loc main_arg3))))))
      transposes_S4x32768x128_S4x128x32768_0_2_1) shapeCasts_S4x128x32768_S4x128x32x32x32 := rfl

theorem hid_apply (X P W B) (b : Fin 4) (n : Fin 65536) (c : Fin 128) : hid X P W B (ix3 b n c)
    = max (∑ k : Fin 3, X (ix3 b k n) * W (ix2 ⟨k.val, by omega⟩ c)
        + ∑ k : Fin 128, P (ix3 b k n) * W (ix2 ⟨3 + k.val, by omega⟩ c) + B (ix1 c)) 0 := by
  pointwise [hid]

/-- A sum over the first two axes, kept as one sum over the points. -/
theorem points_sum (h : S4x65536x128.ReducesTo [0, 1] S128) (H : S4x65536x128.Idx → EReal) (z : EReal) (c : Fin 128) :
    Ideal.hostReduceAdd h H z (ix1 c) = z + ∑ p : Norm.Pt, H (ix3 p.1 p.2 c) := by
  refine congrArg (z + ·) (Finset.sum_filter_eq_sum_of_fiber _ (fun p : Norm.Pt => ix3 p.1 p.2 c)
    (fun p q e => Prod.ext (congrFun e 0) (congrFun e 1)) (fun i => ?_) H)
  constructor
  · intro e
    refine ⟨(i 0, i 1), ?_⟩
    funext a
    apply Fin.ext
    match a with
    | ⟨0, _⟩ => rfl
    | ⟨1, _⟩ => rfl
    | ⟨2, _⟩ => exact (congrArg Fin.val (congrFun e ⟨0, Nat.zero_lt_one⟩)).symm
  · rintro ⟨p, rfl⟩
    funext b
    apply Fin.ext
    match b with
    | ⟨0, _⟩ => rfl

variable {H : FVec Ideal S4x65536x128 .f32} {h : Fin 128 → Norm.Pt → ℝ}

theorem mean_apply (hH : ∀ p c, H (ix3 p.1 p.2 c) = (h c p : EReal)) (c : Fin 128) :
    mean H (ix3 0 0 c) = (Norm.mean (h c) : EReal) := by
  have e : mean H (ix3 0 0 c) = Ideal.div (0 + ∑ p : Norm.Pt, H (ix3 p.1 p.2 c)) (Ideal.ofBits .f32 0x48800000#32) := by
    rw [← points_sum reducesTo_S4x65536x128_S128_d0_1]
    pointwise [mean]
  rw [e, zero_add, Norm.count_bits, Finset.sum_congr rfl fun p _ => hH p c, Norm.sum_real, Norm.div_real _ _ (by norm_num)]
  rfl

theorem centred_apply (hH : ∀ p c, H (ix3 p.1 p.2 c) = (h c p : EReal)) (p : Norm.Pt) (c : Fin 128) :
    centred H (ix3 p.1 p.2 c) = ((h c p - Norm.mean (h c) : ℝ) : EReal) := by
  have e : centred H (ix3 p.1 p.2 c) = H (ix3 p.1 p.2 c) - mean H (ix3 0 0 c) := by
    pointwise [centred]
  rw [e, mean_apply hH, hH, EReal.coe_sub]

theorem count_apply (i : S_.Idx) : count i = ((262144 : ℝ) : EReal) := by
  have e : count i = Ideal.ofBits .f32 0x48800000#32 - FloatOps.sitofp (F := Ideal) .f32 0#32 := by
    pointwise [count]
  have z : FloatOps.sitofp (F := Ideal) .f32 (0#32) = ((0 : ℝ) : EReal) := by
    show (((0#32 : BitVec 32).toInt : ℝ) : EReal) = _
    simp
  rw [e, z, Norm.count_bits, ← EReal.coe_sub, sub_zero]

theorem variance_apply (hH : ∀ p c, H (ix3 p.1 p.2 c) = (h c p : EReal)) (c : Fin 128) :
    variance H (ix3 0 0 c) = (Norm.variance (h c) : EReal) := by
  have e : variance H (ix3 0 0 c) = if 0 < count ix0 then
      Ideal.div (0 + ∑ p : Norm.Pt, centred H (ix3 p.1 p.2 c) * centred H (ix3 p.1 p.2 c)) (count ix0)
      else Ideal.ofBits .f32 0x7FC00000#32 := by
    have := points_sum reducesTo_S4x65536x128_S128_d0_1 (mulf (centred H) (centred H)) 0 c
    have t : ∀ p : Norm.Pt, mulf (centred H) (centred H) (ix3 p.1 p.2 c)
        = centred H (ix3 p.1 p.2 c) * centred H (ix3 p.1 p.2 c) := fun p => rfl
    rw [Finset.sum_congr rfl fun p _ => t p] at this
    rw [← this]
    pointwise [variance]
    rfl
  have pos : (0 : EReal) < ((262144 : ℝ) : EReal) := by exact_mod_cast (by norm_num : (0 : ℝ) < 262144)
  rw [e, count_apply, if_pos pos, zero_add]
  have t : ∀ p : Norm.Pt, centred H (ix3 p.1 p.2 c) * centred H (ix3 p.1 p.2 c)
      = (((h c p - Norm.mean (h c)) * (h c p - Norm.mean (h c)) : ℝ) : EReal) := fun p => by
    rw [centred_apply hH, EReal.coe_mul]
  rw [Finset.sum_congr rfl fun p _ => t p, Norm.sum_real, Norm.div_real _ _ (by norm_num)]
  rfl

theorem normal_apply (hH : ∀ p c, H (ix3 p.1 p.2 c) = (h c p : EReal)) (p : Norm.Pt) (c : Fin 128) :
    normal H (ix3 p.1 p.2 c) = (Norm.normal (h c) p : EReal) := by
  have e : normal H (ix3 p.1 p.2 c) = Ideal.div (centred H (ix3 p.1 p.2 c))
      (Ideal.sqrt (variance H (ix3 0 0 c) + Ideal.ofBits .f32 0x3727C5AC#32)) := by
    pointwise [normal]
  have hp : 0 < Norm.variance (h c) + Norm.eps := add_pos_of_nonneg_of_pos (Norm.variance_nonneg _) Norm.eps_pos
  rw [e, centred_apply hH, variance_apply hH, Norm.eps_bits, ← EReal.coe_add, Norm.sqrt_real _ hp.le,
    Norm.div_real _ _ (Real.sqrt_pos.mpr hp).ne', div_eq_mul_inv]
  rfl

theorem rounded_apply (X) (b : Fin 4) (n : Fin 65536) (k : Fin 3) : rounded X (ix3 b n k)
    = FloatOps.fptosi (F := Ideal) (φ := .f32) 32 (Ideal.liftRound Ideal.roundHalfEven (Ideal.div (X (ix3 b k n)) 1
      * (Ideal.ofBits .f32 0x42000000#32 - 1))) := by
  pointwise [rounded]

theorem voxel_apply (K) (b : Fin 4) (n : Fin 65536) : voxel K (ix2 b n)
    = KernelIdeal.Host.cellWord (K (ix3 b n 0)) (K (ix3 b n 1)) (K (ix3 b n 2)) := by
  pointwise [voxel, clipped]
  rfl

theorem largest_apply (I N) (b : Fin 4) (v : Fin 32768) (c : Fin 128) : largest I N (ix3 b v c)
    = Finset.univ.fold max ⊥ fun n : Fin 65536 => if I (ix2 b n) = BitVec.ofNat 32 v.val then N (ix3 b n c) else ⊥ := by
  rw [← Norm.bot_bits]
  pointwise [largest]
  refine Finset.fold_congr fun n _ => ?_
  show (if IntOp.cmpi .eq (I (ix2 b n)) (BitVec.ofNat 32 v.val) = 1#1 then N (ix3 b n c) else _) = _
  by_cases e : I (ix2 b n) = BitVec.ofNat 32 v.val
  · rw [if_pos e, if_pos]
    simp [IntOp.cmpi, e]
  · rw [if_neg e, if_neg]
    · rfl
    · rw [show IntOp.cmpi .eq (I (ix2 b n)) (BitVec.ofNat 32 v.val) = 0#1 by simp [IntOp.cmpi, beq_eq_false_iff_ne.mpr e]]
      decide

theorem filled_apply (M) (b : Fin 4) (v : Fin 32768) (c : Fin 128) : filled M (ix3 b v c)
    = if M (ix3 b v c) = ⊥ then 0 else M (ix3 b v c) := by
  rw [← Norm.bot_bits]
  pointwise [filled]
  have z : (id (constant S_ FTy.f32 0#32) : FVec Ideal S_ .f32) ix0 = 0 := by
    show Ideal.ofBits .f32 0#32 = 0
    simp [Ideal.ofBits, Ideal.ieee]
  rw [z]

end Cert.ReferenceIdeal.Read

end
-- ==== Proof.Hidden.lean ====
/- The hidden features of the ideal kernel, and the blocks its two regions read them from. -/
module

public import proofs.«01_k».proof.Proof.Region0
public import proofs.«01_k».proof.Proof.Region1
public import proofs.«01_k».proof.Proof.Norm
public import Idealize.ShloMosaic.Lib.Pointwise
public import Idealize.ShloMosaic.Lib.Pipeline.ValueKit

@[expose] public section

set_option maxRecDepth 16384

noncomputable section

namespace Cert.KernelIdeal

open Idealize.ShloMosaic Idealize.ShloMosaic.TcCoe Idealize.SL.Sem Cert.KernelIdeal.Gen

/-- A point's feature in one channel: the product, the bias, the cut at zero. -/
def hidden (X : S4x3x65536.Idx → EReal) (P : S4x128x65536.Idx → EReal) (W : S131x128.Idx → EReal) (B : Fin 128 → EReal)
    (c : Fin 128) (p : Norm.Pt) : EReal :=
  max (∑ k : Fin 3, X (ix3 p.1 k p.2) * W (ix2 ⟨k.val, by omega⟩ c)
    + ∑ k : Fin 128, P (ix3 p.1 k p.2) * W (ix2 ⟨3 + k.val, by omega⟩ c) + B c) 0

variable (V : Dev nD → Valuation τ sig (Elt Ideal)) (d : Dev nD)

/-- The features off the arrays a region finds. -/
def found (c : Fin 128) (p : Norm.Pt) : EReal :=
  hidden (V d (Proc.devRef .tc main_arg0)) (V d (Proc.devRef .tc main_arg1)) (V d (Proc.devRef .tc main_arg2))
    (fun c => (V d (Proc.devRef .tc main_v17) : S1x128.Idx → EReal) (ix2 0 c)) c p

namespace Stats

/-- Where every window of the statistics region stands (decided). -/
theorem idx : ∀ t : Fin cfg0.N, win0_0.index t = ![t.val / 8, 0, t.val % 8] ∧ win0_1.index t = ![t.val / 8, 0, t.val % 8]
    ∧ win0_2.index t = ![0, 0] ∧ win0_3.index t = ![0, 0] :=
  (by decide +kernel : ∀ t : Fin grid0.N, _)

variable {V d} {t : Fin cfg0.N} {p : Norm.Pt} {r : Fin 8192}

theorem blk0 (hb : p.1.val = t.val / 8) (hn : p.2.val = t.val % 8 * 8192 + r.val) (k : Fin 3) :
    iblk V d 0 t (ix3 0 k r) = V d (Proc.devRef .tc main_arg0) (ix3 p.1 k p.2) := by
  blk_ext [iblk, idx t]

theorem blk1 (hb : p.1.val = t.val / 8) (hn : p.2.val = t.val % 8 * 8192 + r.val) (k : Fin 128) :
    iblk V d 1 t (ix3 0 k r) = V d (Proc.devRef .tc main_arg1) (ix3 p.1 k p.2) := by
  blk_ext [iblk, idx t]

theorem blk2 : iblk V d 2 t = V d (Proc.devRef .tc main_arg2) := by
  funext y
  blk_ext [iblk, idx t]

theorem blk3 : iblk V d 3 t = V d (Proc.devRef .tc main_v17) := by
  funext y
  blk_ext [iblk, idx t]

/-- A block whose lane `r` holds point `p`: that lane's feature. -/
theorem lane_of {x0 : S1x3x8192.Idx → EReal} {x1 : S1x128x8192.Idx → EReal} {W : S131x128.Idx → EReal} {B : S1x128.Idx → EReal}
    {X : S4x3x65536.Idx → EReal} {P : S4x128x65536.Idx → EReal} (h0 : ∀ k, x0 (ix3 0 k r) = X (ix3 p.1 k p.2))
    (h1 : ∀ k, x1 (ix3 0 k r) = P (ix3 p.1 k p.2)) (c : Fin 128) :
    k0_pay3 (F := Ideal) x0 x1 (wXyz (F := Ideal) W) (wPf (F := Ideal) W) B (ix2 r c)
      = hidden X P W (fun c => B (ix2 0 c)) c p := by
  pointwise [k0_pay3, wXyz, wPf]
  simp only [h0, h1]
  rfl

/-- One lane of a block is one point's feature. -/
theorem lane (hb : p.1.val = t.val / 8) (hn : p.2.val = t.val % 8 * 8192 + r.val) (c : Fin 128) :
    k0_pay3 (F := Ideal) (iblk V d 0 t) (iblk V d 1 t) (wXyz (iblk V d 2 t)) (wPf (iblk V d 2 t)) (iblk V d 3 t) (ix2 r c)
      = found V d c p := by
  rw [blk2, blk3]
  exact lane_of (blk0 hb hn) (blk1 hb hn) c

end Stats

namespace Scatter

/-- Where every window of the scatter region stands (decided). -/
theorem idx : ∀ t : Fin cfg1.N, win1_0.index t = ![t.val, 0, 0] ∧ win1_1.index t = ![t.val / 16, 0, t.val % 16]
    ∧ win1_2.index t = ![t.val / 16, 0, t.val % 16] ∧ win1_3.index t = ![0, 0] ∧ win1_4.index t = ![0, 0]
    ∧ win1_5.index t = ![0, 0] ∧ win1_6.index t = ![0, 0] :=
  (by decide +kernel : ∀ t : Fin grid1.N, _)

variable {V d} {t : Fin cfg1.N} {p : Norm.Pt} {r : Fin 4096}

theorem blk0 (g : Fin 64) (hg : g.val = t.val) : iblk V d 0 t (ix3 0 0 r) = V d (Proc.devRef .tc main_v30) (ix3 g 0 r) := by
  blk_ext [iblk, idx t]

theorem blk1 (hb : p.1.val = t.val / 16) (hn : p.2.val = t.val % 16 * 4096 + r.val) (k : Fin 3) :
    iblk V d 1 t (ix3 0 k r) = V d (Proc.devRef .tc main_arg0) (ix3 p.1 k p.2) := by
  blk_ext [iblk, idx t]

theorem blk2 (hb : p.1.val = t.val / 16) (hn : p.2.val = t.val % 16 * 4096 + r.val) (k : Fin 128) :
    iblk V d 2 t (ix3 0 k r) = V d (Proc.devRef .tc main_arg1) (ix3 p.1 k p.2) := by
  blk_ext [iblk, idx t]

theorem blk3 : iblk V d 3 t = V d (Proc.devRef .tc main_arg2) := by
  funext y
  blk_ext [iblk, idx t]

theorem blk4 : iblk V d 4 t = V d (Proc.devRef .tc main_v17) := by
  funext y
  blk_ext [iblk, idx t]

theorem blk5 : iblk V d 5 t = V d (Proc.devRef .tc main_v21) := by
  funext y
  blk_ext [iblk, idx t]

theorem blk6 : iblk V d 6 t = V d (Proc.devRef .tc main_v29) := by
  funext y
  blk_ext [iblk, idx t]

/-- A block whose row `r` holds point `p`: that row's normalised features. -/
theorem row_of {x1 : S1x3x4096.Idx → EReal} {x2 : S1x128x4096.Idx → EReal} {W : S131x128.Idx → EReal} {B M R : S1x128.Idx → EReal}
    {X : S4x3x65536.Idx → EReal} {P : S4x128x65536.Idx → EReal} (h1 : ∀ k, x1 (ix3 0 k r) = X (ix3 p.1 k p.2))
    (h2 : ∀ k, x2 (ix3 0 k r) = P (ix3 p.1 k p.2)) (c : Fin 128) :
    feats (F := Ideal) x1 x2 W B M R (ix2 r c)
      = (hidden X P W (fun c => B (ix2 0 c)) c p - M (ix2 0 c)) * R (ix2 0 c) := by
  pointwise [feats, k1_pay13]
  simp only [h1, h2]
  rfl

/-- One row of a block is one point's normalised features. -/
theorem row (hb : p.1.val = t.val / 16) (hn : p.2.val = t.val % 16 * 4096 + r.val) (c : Fin 128) :
    (hblk V d t : S4096x128.Idx → EReal) (ix2 r c)
      = (found V d c p - (V d (Proc.devRef .tc main_v21) : S1x128.Idx → EReal) (ix2 0 c))
        * (V d (Proc.devRef .tc main_v29) : S1x128.Idx → EReal) (ix2 0 c) := by
  unfold hblk
  rw [blk3, blk4, blk5, blk6]
  exact row_of (blk1 hb hn) (blk2 hb hn) c

end Scatter

end Cert.KernelIdeal

end
-- ==== Proof.StatsValue.lean ====
/- What the statistics region leaves: each channel's sum over all points, and the sum of the squares. -/
module

public import proofs.«01_k».proof.Proof.Hidden

@[expose] public section

set_option maxRecDepth 16384

noncomputable section

namespace Cert.KernelIdeal.Stats

open Idealize.ShloMosaic Idealize.ShloMosaic.TcCoe Idealize.SL.Sem Cert.KernelIdeal Cert.KernelIdeal.Gen

theorem sum0_apply (x0 : S1x3x8192.Idx → EReal) (x1 : S1x128x8192.Idx → EReal) (x2 : S131x128.Idx → EReal) (x3 : S1x128.Idx → EReal)
    (A : S2x128.Idx → EReal) (c : Fin 128) : sum0 (F := Ideal) x0 x1 x2 x3 A (ix2 0 c)
      = A (ix2 0 c) + ∑ r : Fin 8192, k0_pay3 (F := Ideal) x0 x1 (wXyz (F := Ideal) x2) (wPf (F := Ideal) x2) x3 (ix2 r c) := by
  pointwise [sum0, k0_pay4]

theorem sum1_apply (x0 : S1x3x8192.Idx → EReal) (x1 : S1x128x8192.Idx → EReal) (x2 : S131x128.Idx → EReal) (x3 : S1x128.Idx → EReal)
    (A : S2x128.Idx → EReal) (c : Fin 128) : sum1 (F := Ideal) x0 x1 x2 x3 A (ix2 0 c)
      = A (ix2 1 c) + ∑ r : Fin 8192, (k0_pay3 (F := Ideal) x0 x1 (wXyz (F := Ideal) x2) (wPf (F := Ideal) x2) x3 (ix2 r c) : EReal)
        * k0_pay3 (F := Ideal) x0 x1 (wXyz (F := Ideal) x2) (wPf (F := Ideal) x2) x3 (ix2 r c) := by
  pointwise [sum1, k0_pay1, k0_pay5, k0_pay6]

/-- Lane `r` of the block at point `n` of the grid. -/
def held (n : ℕ) (r : Fin 8192) : Norm.Pt :=
  (⟨n / 8 % 4, Nat.mod_lt _ (by decide)⟩, ⟨n % 8 * 8192 + r.val, by omega⟩)

variable (V : Dev nD → Valuation τ sig (Elt Ideal)) (d : Dev nD)

theorem lane_at (n : ℕ) (hn : n < 32) (r : Fin 8192) (c : Fin 128) :
    k0_pay3 (F := Ideal) (iblk V d 0 (pt n)) (iblk V d 1 (pt n)) (wXyz (iblk V d 2 (pt n))) (wPf (iblk V d 2 (pt n)))
      (iblk V d 3 (pt n)) (ix2 r c) = found V d c (held n r) :=
  lane (p := held n r) (by show n / 8 % 4 = n % 32 / 8; omega) (by show n % 8 * 8192 + r.val = n % 32 % 8 * 8192 + r.val; omega) c

theorem acc_sum (c : Fin 128) : ∀ n ≤ 32, (acc V d n : S2x128.Idx → EReal) (ix2 0 c)
    = ∑ j ∈ Finset.range n, ∑ r : Fin 8192, found V d c (held j r)
  | 0, _ => by
    rw [Finset.sum_range_zero]
    show k0_pay2 (F := Ideal) (ix2 0 c) = (0 : EReal)
    pointwise [k0_pay2]
  | n + 1, h => by
    rw [Finset.sum_range_succ, ← acc_sum c n (by omega)]
    refine (sum0_apply _ _ _ _ _ c).trans ?_
    exact congrArg _ (Finset.sum_congr rfl fun r _ => lane_at V d n (by omega) r c)

theorem acc_squares (c : Fin 128) : ∀ n ≤ 32, (acc V d n : S2x128.Idx → EReal) (ix2 1 c)
    = ∑ j ∈ Finset.range n, ∑ r : Fin 8192, found V d c (held j r) * found V d c (held j r)
  | 0, _ => by
    rw [Finset.sum_range_zero]
    show k0_pay2 (F := Ideal) (ix2 1 c) = (0 : EReal)
    pointwise [k0_pay2]
  | n + 1, h => by
    rw [Finset.sum_range_succ, ← acc_squares c n (by omega)]
    refine (sum1_apply _ _ _ _ _ c).trans ?_
    exact congrArg _ (Finset.sum_congr rfl fun r _ => congrArg₂ (· * ·) (lane_at V d n (by omega) r c) (lane_at V d n (by omega) r c))

/-- All blocks' lanes are all points. -/
theorem sum_held (g : Norm.Pt → EReal) : ∑ j ∈ Finset.range 32, ∑ r : Fin 8192, g (held j r) = ∑ p, g p := by
  rw [Finset.sum_range, Fintype.sum_prod_type]
  refine Fin.sum_points_lanes_congr 8 fun t k ha hl => congrArg g (Prod.ext (Fin.ext ?_) (Fin.ext rfl))
  show t.val / 8 % 4 = t.val / 8
  omega

theorem total (c : Fin 128) : (acc V d 32 : S2x128.Idx → EReal) (ix2 0 c) = ∑ p, found V d c p :=
  (acc_sum V d c 32 le_rfl).trans (sum_held _)

theorem squares (c : Fin 128) : (acc V d 32 : S2x128.Idx → EReal) (ix2 1 c) = ∑ p, found V d c p * found V d c p :=
  (acc_squares V d c 32 le_rfl).trans (sum_held fun p => found V d c p * found V d c p)

end Cert.KernelIdeal.Stats

end
-- ==== Proof.HostValue.lean ====
/- What the host lines around the two regions compute: the mean, the reciprocal deviation, the rounded coordinates. -/
module

public import proofs.«01_k».proof.Proof.StatsValue
public import proofs.«01_k».proof.Proof.Run
public import Idealize.ShloMosaic.Lib.Pointwise
public import Idealize.ShloMosaic.Lib.StableHlo.RunRead
public import Idealize.ShloMosaic.Lib.Claim

@[expose] public section

set_option maxRecDepth 16384

noncomputable section

namespace Cert.KernelIdeal.Host

open Idealize.ShloMosaic Idealize.ShloMosaic.TcCoe Idealize.ShloMosaic.Tactic
open Cert.KernelIdeal Cert.KernelIdeal.Gen

variable (m : (ℓ : Loc nD τ sig) → Buf (Elt Ideal) ℓ) (d : Dev nD)

/-- The features off the arguments. -/
def feature (c : Fin 128) (p : Norm.Pt) : EReal :=
  hidden (m ((d : Thread nD τ).loc main_arg0)) (m ((d : Thread nD τ).loc main_arg1)) (m ((d : Thread nD τ).loc main_arg2))
    (fun c => (m ((d : Thread nD τ).loc main_arg3) : S128.Idx → EReal) (ix1 c)) c p

theorem V5_arg0 : V5 m d (Proc.devRef .tc main_arg0) = m ((d : Thread nD τ).loc main_arg0) :=
  (V5_of m d main_arg0 (by decide)).trans <| (V4_of m d main_arg0 (by decide)).trans <| (V3_of m d main_arg0 (by decide)).trans <|
    (V2_of m d main_arg0 (by decide)).trans <| V1_of m d main_arg0 (by decide)

theorem V5_arg1 : V5 m d (Proc.devRef .tc main_arg1) = m ((d : Thread nD τ).loc main_arg1) :=
  (V5_of m d main_arg1 (by decide)).trans <| (V4_of m d main_arg1 (by decide)).trans <| (V3_of m d main_arg1 (by decide)).trans <|
    (V2_of m d main_arg1 (by decide)).trans <| V1_of m d main_arg1 (by decide)

theorem V5_arg2 : V5 m d (Proc.devRef .tc main_arg2) = m ((d : Thread nD τ).loc main_arg2) :=
  (V5_of m d main_arg2 (by decide)).trans <| (V4_of m d main_arg2 (by decide)).trans <| (V3_of m d main_arg2 (by decide)).trans <|
    (V2_of m d main_arg2 (by decide)).trans <| V1_of m d main_arg2 (by decide)

theorem V4_arg3 : V4 m d (Proc.devRef .tc main_arg3) = m ((d : Thread nD τ).loc main_arg3) :=
  (V4_of m d main_arg3 (by decide)).trans <| (V3_of m d main_arg3 (by decide)).trans <|
    (V2_of m d main_arg3 (by decide)).trans <| V1_of m d main_arg3 (by decide)

/-- The bias row. -/
theorem bias (c : Fin 128) : (V5 m d (Proc.devRef .tc main_v17) : S1x128.Idx → EReal) (ix2 0 c)
    = (m ((d : Thread nD τ).loc main_arg3) : S128.Idx → EReal) (ix1 c) := by
  have h : (V5 m d (Proc.devRef .tc main_v17) : S1x128.Idx → EReal)
      = shapeCast S1x128 (V4 m d (Proc.devRef .tc main_arg3) : S128.Idx → EReal) shapeCasts_S128_S1x128 := by
    unfold_abbrev_sides
    after_reads_simp
    rfl
  rw [h, V4_arg3]
  pointwise

/-- A buffer neither the statistics region nor the lines after it write. -/
theorem W7_keeps (r : Ref sig .tc) (h : r ∉ hostOps1_W) (h' : r ∉ ([main_v18] : List (Ref sig .tc))) :
    Whole.W7 m d (Proc.devRef .tc r) = V5 m d (Proc.devRef .tc r) :=
  (V7_of m (Whole.outs0 m) d r h).trans (V6_of m (Whole.outs0 m) d r h')

theorem found_first (c : Fin 128) (p : Norm.Pt) : found (V5 m) d c p = feature m d c p := by
  unfold found feature
  rw [V5_arg0, V5_arg1, V5_arg2, funext (bias m d)]

theorem found_second (c : Fin 128) (p : Norm.Pt) : found (Whole.W7 m) d c p = feature m d c p := by
  rw [← found_first]
  unfold found
  rw [W7_keeps m d main_arg0 (by decide) (by decide), W7_keeps m d main_arg1 (by decide) (by decide),
    W7_keeps m d main_arg2 (by decide) (by decide), W7_keeps m d main_v17 (by decide) (by decide)]

/-- What the statistics region leaves. -/
def sums : S2x128.Idx → EReal := V6 m (Whole.outs0 m) d (Proc.devRef .tc main_v18)

theorem sums_eq : sums m d = Stats.acc (V5 m) d 32 := by
  unfold sums
  refine (Function.update_self (Proc.devRef .tc main_v18 : DevRef τ sig) _ (V5 m d)).trans ?_
  exact (Pipeline.afterRegion_arr (Stats.dat (V5 m) d) (V5 m d) launch0.win.arr_inj 4).trans (Stats.final (V5 m) d)

theorem sums_total (c : Fin 128) : sums m d (ix2 0 c) = ∑ p, feature m d c p := by
  rw [sums_eq]
  exact (Stats.total (V5 m) d c).trans (Finset.sum_congr rfl fun p _ => found_first m d c p)

theorem sums_squares (c : Fin 128) : sums m d (ix2 1 c) = ∑ p, feature m d c p * feature m d c p := by
  rw [sums_eq]
  exact (Stats.squares (V5 m) d c).trans
    (Finset.sum_congr rfl fun p _ => congrArg₂ (· * ·) (found_first m d c p) (found_first m d c p))

theorem mean_word (c : Fin 128) : (Whole.W7 m d (Proc.devRef .tc main_v21) : S1x128.Idx → EReal) (ix2 0 c)
    = Ideal.div (sums m d (ix2 0 c)) (Ideal.ofBits .f32 0x48800000#32) := by
  unfold Whole.W7 sums
  unfold_abbrev_sides
  after_reads_simp
  pointwise

theorem rstd_word (c : Fin 128) : (Whole.W7 m d (Proc.devRef .tc main_v29) : S1x128.Idx → EReal) (ix2 0 c)
    = Ideal.rsqrt (Ideal.div (sums m d (ix2 1 c)) (Ideal.ofBits .f32 0x48800000#32)
        - Ideal.div (sums m d (ix2 0 c)) (Ideal.ofBits .f32 0x48800000#32) * Ideal.div (sums m d (ix2 0 c)) (Ideal.ofBits .f32 0x48800000#32)
        + Ideal.ofBits .f32 0x3727C5AC#32) := by
  unfold Whole.W7 sums
  unfold_abbrev_sides
  after_reads_simp
  pointwise

theorem rounded_apply (X : S4x3x65536.Idx → EReal) (hX : m ((d : Thread nD τ).loc main_arg0) = X) (b : Fin 4) (k : Fin 3)
    (n : Fin 65536) : rounded m d (ix3 b k n)
      = FloatOps.fptosi (F := Ideal) (φ := .f32) 32 (Ideal.liftRound Ideal.roundHalfEven
          (X (ix3 b k n) * Ideal.ofBits .f32 0x41F80000#32)) := by
  subst hX
  unfold rounded
  unfold_abbrev_sides
  after_reads_simp
  pointwise
  rfl

end Cert.KernelIdeal.Host

end
-- ==== Proof.ScatterValue.lean ====
/- What the scatter region leaves: in each cell the largest of its points' normalised features, zero where there is none. -/
module

public import proofs.«01_k».proof.Proof.Hidden

@[expose] public section

set_option maxRecDepth 16384

noncomputable section

namespace Cert.KernelIdeal.Scatter

open Idealize.ShloMosaic Idealize.ShloMosaic.TcCoe Idealize.SL.Sem Cert.KernelIdeal Cert.KernelIdeal.Gen

/-- The largest of the first `n` values. -/
abbrev top (g : ℕ → EReal) (n : ℕ) : EReal := (Finset.range n).sup g

theorem top_succ (g : ℕ → EReal) (n : ℕ) : top g (n + 1) = max (top g n) (g n) := by
  unfold top
  rw [Finset.range_add_one, Finset.sup_insert]
  exact max_comm _ _

theorem top_add (g : ℕ → EReal) (a : ℕ) : ∀ b, top g (a + b) = max (top g a) (top (fun l => g (a + l)) b)
  | 0 => (max_eq_left bot_le).symm
  | b + 1 => by rw [← Nat.add_assoc, top_succ, top_add g a b, top_succ, max_assoc]

theorem top_congr {g g' : ℕ → EReal} (n : ℕ) (h : ∀ l < n, g l = g' l) : top g n = top g' n :=
  Finset.sup_congr rfl fun l hl => h l (Finset.mem_range.mp hl)

/-- The largest of all values of a finite family. -/
theorem top_fold (N : ℕ) (g : ℕ → EReal) : top g N = Finset.univ.fold max ⊥ fun l : Fin N => g l.val := by
  show _ = Finset.univ.sup fun l : Fin N => g l.val
  refine le_antisymm (Finset.sup_le fun l hl => ?_) (Finset.sup_le fun l _ => ?_)
  · exact Finset.le_sup (f := fun l : Fin N => g l.val) (Finset.mem_univ ⟨l, Finset.mem_range.mp hl⟩)
  · exact Finset.le_sup (f := g) (Finset.mem_range.mpr l.isLt)

/-- The largest of the three tables' entries. -/
def joint (s : Tabs Ideal) (y : S32768x128.Idx) : EReal := max (max (s.t0 y) (s.t1 y)) (s.t2 y : EReal)

/-- What point `l` of a block offers entry `y`: its feature if the entry is of its cell. -/
def offer (X : S1x1x4096.Idx → BitVec 32) (H : S4096x128.Idx → EReal) (y : S32768x128.Idx) (l : ℕ) : EReal :=
  if (y 0).val = (cellAt X l).toNat then rowAt (F := Ideal) H l (y 1) else ⊥

theorem put_eq (X : S1x1x4096.Idx → BitVec 32) (H : S4096x128.Idx → EReal) (n : ℕ) (T : Tab Ideal) (y : S32768x128.Idx) :
    (putAt X H n T y : EReal) = max (T y) (offer X H y n) := by
  unfold putAt put offer
  by_cases e : (y 0).val = (cellAt X n).toNat
  · rw [if_pos e, if_pos e]
    rfl
  · rw [if_neg e, if_neg e]
    exact (max_eq_left bot_le).symm

theorem trips (X : S1x1x4096.Idx → BitVec 32) (H : S4096x128.Idx → EReal) (s : Tabs Ideal) (y : S32768x128.Idx) : ∀ k : ℕ,
    max (max (tab0 X H s.t0 k y : EReal) (tab1 X H s.t1 k y)) (tab2 X H s.t2 k y) = max (joint s y) (top (offer X H y) (8 * k))
  | 0 => (max_eq_left bot_le).symm
  | k + 1 => by
    have ih := trips X H s y k
    have e : 8 * (k + 1) = 8 * k + 1 + 1 + 1 + 1 + 1 + 1 + 1 + 1 := by omega
    rw [e]
    simp only [top_succ]
    simp only [← max_assoc]
    rw [← ih]
    show max (max (putAt X H (8 * k + 6) (putAt X H (8 * k + 3) (putAt X H (8 * k) (tab0 X H s.t0 k))) y : EReal)
      (putAt X H (8 * k + 7) (putAt X H (8 * k + 4) (putAt X H (8 * k + 1) (tab1 X H s.t1 k))) y))
      (putAt X H (8 * k + 5) (putAt X H (8 * k + 2) (tab2 X H s.t2 k)) y) = _
    simp only [put_eq]
    ac_rfl

/-- A block's points raise the joint maximum to the largest they offer. -/
theorem joint_fill (X : S1x1x4096.Idx → BitVec 32) (H : S4096x128.Idx → EReal) (s : Tabs Ideal) (y : S32768x128.Idx) :
    joint (fill (F := Ideal) X H s) y = max (joint s y) (top (offer X H y) 4096) :=
  trips X H s y 512

theorem joint_clear (s : Tabs Ideal) (y : S32768x128.Idx) : joint (clear s) y = ⊥ := by
  have h : (k1_pay10 (F := Ideal) y : EReal) = ⊥ ∧ (k1_pay11 (F := Ideal) y : EReal) = ⊥ ∧ (k1_pay12 (F := Ideal) y : EReal) = ⊥ := by
    obtain ⟨a, b, rfl⟩ : ∃ (a : Fin 32768) (b : Fin 128), y = ix2 a b := ⟨y 0, y 1, eq_ix2 y⟩
    rw [← Norm.bot_bits]
    refine ⟨?_, ?_, ?_⟩
    · pointwise [k1_pay10]
    · pointwise [k1_pay11]
    · pointwise [k1_pay12]
  show max (max (k1_pay10 (F := Ideal) y : EReal) (k1_pay11 (F := Ideal) y)) (k1_pay12 (F := Ideal) y) = ⊥
  rw [h.1, h.2.1, h.2.2]
  simp

/-- Zero where nothing was offered, the largest offer elsewhere. -/
def orZero (x : EReal) : EReal := if x = ⊥ then 0 else x

theorem merged (s : Tabs Ideal) (a : Fin 32768) (b : Fin 128) :
    (k1_pay3 (F := Ideal) s.t0 s.t1 s.t2 (ix2 a b) : EReal) = orZero (joint s (ix2 a b)) := by
  unfold orZero joint
  rw [← Norm.bot_bits]
  pointwise [k1_pay3]

variable (V : Dev nD → Valuation τ sig (Elt Ideal)) (d : Dev nD) (I : ℕ → ℕ → BitVec 32) (N : ℕ → ℕ → Fin 128 → EReal)

/-- What point `l` of batch `b` offers entry `y`. -/
def offered (b : ℕ) (y : S32768x128.Idx) (l : ℕ) : EReal := if (y 0).val = (I b l).toNat then N b l (y 1) else ⊥

/-- The tables point `n` starts from. -/
abbrev start (n : ℕ) : Tabs Ideal := if n % 16 = 0 then clear (St V d n) else St V d n

/-- The tables after point `n`'s points are put in. -/
abbrev full (n : ℕ) : Tabs Ideal := fill (iblk V d 0 (pt n)) (hblk V d (pt n)) (start V d n)

theorem next_mid (n : ℕ) (h : n % 16 ≠ 15) : St V d (n + 1) = full V d n := if_neg h

theorem next_last (n : ℕ) (h : n % 16 = 15) : St V d (n + 1) = finish (n / 16) (full V d n) := by
  unfold full start
  rw [if_neg (by omega)]
  exact if_pos h

section

variable {V d I N} (hI : ∀ n < 64, ∀ l < 4096, cellAt (iblk V d 0 (pt n)) l = I (n / 16) (n % 16 * 4096 + l))
  (hN : ∀ n < 64, ∀ l < 4096, ∀ c, (rowAt (F := Ideal) (hblk V d (pt n)) l c : EReal) = N (n / 16) (n % 16 * 4096 + l) c)

include hI hN

/-- After point `n` the tables jointly hold the largest offer of the batch's points so far. -/
theorem joint_full (y : S32768x128.Idx) : ∀ n < 64, joint (full V d n) y = top (offered I N (n / 16) y) ((n % 16 + 1) * 4096)
  | n, hn => by
    have ho : top (offer (iblk V d 0 (pt n)) (hblk V d (pt n)) y) 4096
        = top (fun l => offered I N (n / 16) y (n % 16 * 4096 + l)) 4096 :=
      top_congr 4096 fun l hl => by
        unfold offer offered
        rw [hI n hn l hl]
        exact congrArg (fun x : EReal => if (y 0).val = (I (n / 16) (n % 16 * 4096 + l)).toNat then x else ⊥) (hN n hn l hl (y 1))
    have hs : joint (start V d n) y = top (offered I N (n / 16) y) (n % 16 * 4096) := by
      by_cases h0 : n % 16 = 0
      · unfold start
        rw [if_pos h0, joint_clear, h0]
        rfl
      · obtain ⟨k, rfl⟩ : ∃ k, n = k + 1 := ⟨n - 1, by omega⟩
        unfold start
        rw [if_neg h0, next_mid V d k (by omega), joint_full y k (by omega)]
        rw [show (k + 1) / 16 = k / 16 by omega, show (k + 1) % 16 = k % 16 + 1 by omega]
    refine (joint_fill _ _ _ y).trans ?_
    rw [ho, hs, ← top_add, Nat.add_mul, Nat.one_mul]

/-- A finished batch's slab of the result stays at its largest offers. -/
theorem out_eq (b : ℕ) (y : S4x32768x128.Idx) (hy : (y 0).val = b) (hb : b < 4) : ∀ k, 16 * b + 16 + k ≤ 64 →
    ((St V d (16 * b + 16 + k)).out y : EReal) = orZero (top (offered I N b (ix2 (y 1) (y 2))) 65536)
  | 0, h => by
    have e : St V d (16 * b + 15 + 1) = finish b (full V d (16 * b + 15)) := by
      rw [next_last V d (16 * b + 15) (by omega), show (16 * b + 15) / 16 = b by omega]
    show (St V d (16 * b + 15 + 1)).out y = _
    rw [e]
    unfold finish
    refine (if_pos hy).trans ((merged _ (y 1) (y 2)).trans ?_)
    rw [joint_full hI hN _ (16 * b + 15) (by omega), show (16 * b + 15) / 16 = b by omega, show (16 * b + 15) % 16 = 15 by omega]
  | k + 1, h => by
    rw [← out_eq b y hy hb k (by omega)]
    have keep : ∀ n, (full V d n).out = (St V d n).out := fun n => by
      unfold full start
      by_cases h0 : n % 16 = 0
      · rw [if_pos h0]; rfl
      · rw [if_neg h0]; rfl
    show (St V d (16 * b + 16 + k + 1)).out y = _
    by_cases hl : (16 * b + 16 + k) % 16 = 15
    · rw [next_last V d _ hl]
      unfold finish
      refine (if_neg ?_).trans (congrFun (keep _) y)
      omega
    · rw [next_mid V d _ hl, keep]

theorem result (b : Fin 4) (v : Fin 32768) (c : Fin 128) :
    ((St V d 64).out (ix3 b v c) : EReal) = orZero (top (offered I N b.val (ix2 v c)) 65536) := by
  have := out_eq hI hN b.val (ix3 b v c) rfl b.isLt (48 - 16 * b.val) (by omega)
  rw [show 16 * b.val + 16 + (48 - 16 * b.val) = 64 by omega] at this
  exact this

end

end Cert.KernelIdeal.Scatter

end
-- ==== Proof.Value.lean ====
/- The kernel's result against the reference's, over the extended reals. -/
module

public import proofs.«01_k».proof.Proof.RefValue
public import proofs.«01_k».proof.Proof.HostValue
public import proofs.«01_k».proof.Proof.ScatterValue

@[expose] public section

set_option maxRecDepth 16384

noncomputable section

namespace Cert.Proof

open Idealize.ShloMosaic Idealize.ShloMosaic.TcCoe Idealize.ShloMosaic.Tactic
open Cert.KernelIdeal Cert.KernelIdeal.Gen

section Arrays

variable {X : S4x3x65536.Idx → EReal} {P : S4x128x65536.Idx → EReal} {W : S131x128.Idx → EReal} {B : S128.Idx → EReal}

/-- Real arguments have real features. -/
theorem hidden_real (hX : ∀ i, ∃ r : ℝ, X i = r) (hP : ∀ i, ∃ r : ℝ, P i = r) (hW : ∀ i, ∃ r : ℝ, W i = r) (hB : ∀ i, ∃ r : ℝ, B i = r) :
    ∃ h : Fin 128 → Norm.Pt → ℝ, ∀ c p, hidden X P W (fun c => B (ix1 c)) c p = (h c p : EReal) := by
  choose x hx using hX
  choose f hf using hP
  choose w hw using hW
  choose b hb using hB
  refine ⟨fun c p => max (∑ k : Fin 3, x (ix3 p.1 k p.2) * w (ix2 ⟨k.val, by omega⟩ c)
    + ∑ k : Fin 128, f (ix3 p.1 k p.2) * w (ix2 ⟨3 + k.val, by omega⟩ c) + b (ix1 c)) 0, fun c p => ?_⟩
  unfold KernelIdeal.hidden
  simp only [hx, hf, hw, hb, ← EReal.coe_mul, Norm.sum_real, ← EReal.coe_add]
  exact (EReal.coe_strictMono.monotone.map_max (a := _) (b := (0 : ℝ))).symm

/-- Both programs scale a coordinate to the same number. -/
theorem scale_eq (x : EReal) : x * Ideal.ofBits .f32 0x41F80000#32
    = Ideal.div x 1 * (Ideal.ofBits .f32 0x42000000#32 - 1) := by
  have e : Ideal.div x 1 = x := by
    unfold Ideal.div
    rw [if_neg one_ne_zero, inv_one, mul_one]
  rw [e, Norm.scale_bits, Norm.side_bits, ← EReal.coe_one, ← EReal.coe_sub]
  norm_num

/-- A word below the number of cells is a cell's number exactly if it reads as it. -/
theorem word_eq (w : BitVec 32) (v : Fin 32768) : w = BitVec.ofNat 32 v.val ↔ v.val = w.toNat := by
  constructor
  · rintro rfl
    rw [BitVec.toNat_ofNat, Nat.mod_eq_of_lt (by omega)]
  · intro e
    rw [e, BitVec.ofNat_toNat, BitVec.setWidth_eq]

end Arrays

variable (m : (ℓ : Loc nD τ sig) → Buf (Elt Ideal) ℓ) (d : Dev nD)

section

variable {m d} {h : Fin 128 → Norm.Pt → ℝ} (hh : ∀ c p, Host.feature m d c p = (h c p : EReal))

include hh

theorem mean_real (c : Fin 128) : (Whole.W7 m d (Proc.devRef .tc main_v21) : S1x128.Idx → EReal) (ix2 0 c) = (Norm.mean (h c) : EReal) := by
  rw [Host.mean_word, Host.sums_total, Finset.sum_congr rfl fun p _ => hh c p, Norm.sum_real, Norm.count_bits, Norm.div_real _ _ (by norm_num)]
  rfl

theorem rstd_real (c : Fin 128) : (Whole.W7 m d (Proc.devRef .tc main_v29) : S1x128.Idx → EReal) (ix2 0 c)
    = (((Real.sqrt (Norm.variance (h c) + Norm.eps))⁻¹ : ℝ) : EReal) := by
  have hs : ∑ p, Host.feature m d c p * Host.feature m d c p = ((∑ p, h c p * h c p : ℝ) : EReal) := by
    rw [← Norm.sum_real]
    exact Finset.sum_congr rfl fun p _ => by rw [hh, EReal.coe_mul]
  have hp : 0 < Norm.variance (h c) + Norm.eps := add_pos_of_nonneg_of_pos (Norm.variance_nonneg _) Norm.eps_pos
  have hm : (∑ p, h c p) / 262144 = Norm.mean (h c) := rfl
  rw [Host.rstd_word, Host.sums_total, Host.sums_squares, hs, Finset.sum_congr rfl fun p _ => hh c p, Norm.sum_real, Norm.count_bits,
    Norm.div_real _ _ (by norm_num), Norm.div_real _ _ (by norm_num), hm, ← EReal.coe_mul, ← EReal.coe_sub, Norm.variance_eq,
    Norm.eps_bits, ← EReal.coe_add, Norm.rsqrt_real _ hp]

/-- The word of a point's cell. -/
def cell (m : (ℓ : Loc nD τ sig) → Buf (Elt Ideal) ℓ) (d : Dev nD) (b l : ℕ) : BitVec 32 :=
  (V5 m d (Proc.devRef .tc main_v16) : S4x65536.Idx → BitVec 32) (ix2 (Fin.ofNat 4 b) (Fin.ofNat 65536 l))

theorem slab (b : Fin 4) (v : Fin 32768) (c : Fin 128) : ((Scatter.St (Whole.W7 m) d 64).out (ix3 b v c) : EReal)
    = Scatter.orZero (Finset.univ.fold max ⊥ fun l : Fin 65536 =>
        if v.val = (cell m d b.val l.val).toNat then (Norm.normal (h c) (b, l) : EReal) else ⊥) := by
  refine (Scatter.result (I := cell m d) (N := fun b l c => (Norm.normal (h c) (Fin.ofNat 4 b, Fin.ofNat 65536 l) : EReal))
    (fun n hn l hl => ?_) (fun n hn l hl c => ?_) b v c).trans ?_
  · refine (Scatter.blk0 (t := Scatter.pt n) ⟨n, hn⟩ (Nat.mod_eq_of_lt hn).symm).trans
      ((Host.v30_eq m (Whole.outs0 m) d ⟨n, hn⟩ (Fin.ofNat 4096 l)).trans ?_)
    unfold cell
    congr 2 <;> apply Fin.ext
    · show n / 16 = n / 16 % 4
      omega
    · show n % 16 * 4096 + l % 4096 = (n % 16 * 4096 + l) % 65536
      omega
  · refine (Scatter.row (t := Scatter.pt n) (p := (Fin.ofNat 4 (n / 16), Fin.ofNat 65536 (n % 16 * 4096 + l))) (r := Fin.ofNat 4096 l) ?_ ?_ c).trans ?_
    · show n / 16 % 4 = n % 64 / 16
      omega
    · show (n % 16 * 4096 + l) % 65536 = n % 64 % 16 * 4096 + l % 4096
      omega
    · rw [Host.found_second, hh, mean_real hh, rstd_real hh, ← EReal.coe_sub, ← EReal.coe_mul]
      rfl
  · rw [Scatter.top_fold]
    refine congrArg Scatter.orZero (Finset.fold_congr fun l _ => ?_)
    unfold Scatter.offered
    have hb : Fin.ofNat 4 b.val = b := Fin.ext (Nat.mod_eq_of_lt b.isLt)
    have hl : Fin.ofNat 65536 l.val = l := Fin.ext (Nat.mod_eq_of_lt l.isLt)
    simp only [hb, hl]
    rfl

end

/-- A point's cell is the reference's voxel of the point. -/
theorem cell_eq (X : S4x3x65536.Idx → EReal) (hX : m ((d : Thread nD τ).loc main_arg0) = X) (b : Fin 4) (l : Fin 65536) :
    cell m d b.val l.val = ReferenceIdeal.Read.voxel (ReferenceIdeal.Read.rounded X) (ix2 b l) := by
  have hb : Fin.ofNat 4 b.val = b := Fin.ext (Nat.mod_eq_of_lt b.isLt)
  have hl : Fin.ofNat 65536 l.val = l := Fin.ext (Nat.mod_eq_of_lt l.isLt)
  unfold cell
  rw [hb, hl, Host.v16_eq, ReferenceIdeal.Read.voxel_apply]
  simp only [Host.rounded_apply m d X hX, ReferenceIdeal.Read.rounded_apply, scale_eq]

/-- The scatter region's array is the reference's, before both are transposed. -/
theorem arrays_eq (X : S4x3x65536.Idx → EReal) (P : S4x128x65536.Idx → EReal) (W : S131x128.Idx → EReal) (B : S128.Idx → EReal)
    (eX : m ((d : Thread nD τ).loc main_arg0) = X) (eP : m ((d : Thread nD τ).loc main_arg1) = P)
    (eW : m ((d : Thread nD τ).loc main_arg2) = W) (eB : m ((d : Thread nD τ).loc main_arg3) = B)
    (hX : ∀ i, ∃ r : ℝ, X i = r) (hP : ∀ i, ∃ r : ℝ, P i = r) (hW : ∀ i, ∃ r : ℝ, W i = r) (hB : ∀ i, ∃ r : ℝ, B i = r) :
    ((Scatter.St (Whole.W7 m) d 64).out : S4x32768x128.Idx → EReal)
      = ReferenceIdeal.Read.filled (ReferenceIdeal.Read.largest (ReferenceIdeal.Read.voxel (ReferenceIdeal.Read.rounded X))
          (ReferenceIdeal.Read.normal (ReferenceIdeal.Read.hid X P W B))) := by
  obtain ⟨h, hh⟩ := hidden_real hX hP hW hB
  have hf : ∀ c p, Host.feature m d c p = (h c p : EReal) := fun c p => by
    rw [← hh c p]
    unfold Host.feature
    rw [eX, eP, eW, eB]
  have hH : ∀ (p : Norm.Pt) (c : Fin 128), ReferenceIdeal.Read.hid X P W B (ix3 p.1 p.2 c) = (h c p : EReal) := fun p c =>
    (ReferenceIdeal.Read.hid_apply X P W B p.1 p.2 c).trans (hh c p)
  funext y
  obtain ⟨b, v, c, rfl⟩ : ∃ (b : Fin 4) (v : Fin 32768) (c : Fin 128), y = ix3 b v c := ⟨y 0, y 1, y 2, eq_ix3 y⟩
  refine (slab hf b v c).trans ((congrArg Scatter.orZero ?_).trans (ReferenceIdeal.Read.filled_apply _ b v c).symm)
  refine Eq.trans ?_ (ReferenceIdeal.Read.largest_apply _ _ b v c).symm
  refine Finset.fold_congr fun l _ => ?_
  rw [cell_eq m d X eX b l]
  exact if_congr (word_eq _ v).symm (ReferenceIdeal.Read.normal_apply hH (b, l) c).symm rfl

/-- The kernel's result array, off the scatter region's. -/
theorem result_word : (V9 m (Whole.outs m) d (Proc.devRef .tc main_v33) : S4x128x32x32x32.Idx → EReal)
    = shapeCast S4x128x32x32x32 (transpose S4x128x32768 [0, 2, 1] ((Scatter.St (Whole.W7 m) d 64).out : S4x32768x128.Idx → EReal)
        transposes_S4x32768x128_S4x128x32768_0_2_1) shapeCasts_S4x128x32768_S4x128x32x32x32 := by
  have e : (V8 m (Whole.outs m) d (Proc.devRef .tc main_v31) : S4x32768x128.Idx → EReal) = (Scatter.St (Whole.W7 m) d 64).out := by
    rw [Whole.V8_eq]
    exact Function.update_self _ _ _
  rw [← e]
  unfold V9
  after_reads_simp
  rfl

end Cert.Proof

end
-- ==== Proof.Finite.lean ====
/- The precondition read: every entry of the four arguments is a real number. -/
module

public import proofs.«01_k».proof.Defs
public import proofs.«01_k».proof.Proof.Norm
public import Idealize.ShloMosaic.Lib.Pointwise

@[expose] public section

set_option maxRecDepth 16384

noncomputable section

namespace Cert.Pre_finite_inputs

open Idealize.ShloMosaic

/-- The shapes the precondition's operations need. -/
theorem facts : Facts := ⟨by decide, by decide, by decide, by decide⟩

instance : Facts := facts

/-- A number whose absolute value lies below +∞ is real. -/
theorem real_of_lt (x : EReal) (h : max x (-x) < ⊤) : ∃ r : ℝ, x = (r : EReal) := by
  refine ⟨x.toReal, (EReal.coe_toReal ?_ ?_).symm⟩
  · rintro rfl; simp at h
  · rintro rfl; simp at h

/-- The comparison came out true: the entry is real. -/
theorem real_of_word (x : EReal) (h : BitVec.ofBool (decide ((FloatOps.absf (F := Ideal) (φ := .f32) x : EReal)
    < Ideal.ofBits .f32 0x7F800000#32)) = 1#1) : ∃ r : ℝ, x = (r : EReal) := by
  refine real_of_lt x ?_
  rw [Norm.top_bits] at h
  by_contra hx
  rw [show decide ((FloatOps.absf (F := Ideal) (φ := .f32) x : EReal) < ⊤) = false from decide_eq_false hx] at h
  exact absurd h (by decide)

variable (X : FVec Ideal S4x3x65536 .f32) (P : FVec Ideal S4x128x65536 .f32) (W : FVec Ideal S131x128 .f32) (B : FVec Ideal S128 .f32)

theorem real0 (h : (fn (F := Ideal) X P W B).1 = fun _ => 1#1) (i : S4x3x65536.Idx) : ∃ r : ℝ, X i = (r : EReal) := by
  obtain ⟨b, k, n, rfl⟩ : ∃ (b : Fin 4) (k : Fin 3) (n : Fin 65536), i = ix3 b k n := ⟨i 0, i 1, i 2, eq_ix3 i⟩
  refine real_of_word _ ((Eq.symm ?_).trans (congrFun h (ix3 b k n)))
  pointwise [fn]

theorem real1 (h : (fn (F := Ideal) X P W B).2.1 = fun _ => 1#1) (i : S4x128x65536.Idx) : ∃ r : ℝ, P i = (r : EReal) := by
  obtain ⟨b, k, n, rfl⟩ : ∃ (b : Fin 4) (k : Fin 128) (n : Fin 65536), i = ix3 b k n := ⟨i 0, i 1, i 2, eq_ix3 i⟩
  refine real_of_word _ ((Eq.symm ?_).trans (congrFun h (ix3 b k n)))
  pointwise [fn]

theorem real2 (h : (fn (F := Ideal) X P W B).2.2.1 = fun _ => 1#1) (i : S131x128.Idx) : ∃ r : ℝ, W i = (r : EReal) := by
  obtain ⟨k, c, rfl⟩ : ∃ (k : Fin 131) (c : Fin 128), i = ix2 k c := ⟨i 0, i 1, eq_ix2 i⟩
  refine real_of_word _ ((Eq.symm ?_).trans (congrFun h (ix2 k c)))
  pointwise [fn]

theorem real3 (h : (fn (F := Ideal) X P W B).2.2.2 = fun _ => 1#1) (i : S128.Idx) : ∃ r : ℝ, B i = (r : EReal) := by
  obtain ⟨c, rfl⟩ : ∃ (c : Fin 128), i = ix1 c := ⟨i 0, eq_ix1 i⟩
  refine real_of_word _ ((Eq.symm ?_).trans (congrFun h (ix1 c)))
  pointwise [fn]

end Cert.Pre_finite_inputs

end
-- ==== Proof.Algebraic.lean ====
/- The ideal kernel and the ideal reference end with equal results. -/
module

public import proofs.«01_k».proof.Proof.Value
public import proofs.«01_k».proof.Proof.Finite

@[expose] public section

set_option maxRecDepth 16384

noncomputable section

namespace Cert.Proof

open Idealize.ShloMosaic Idealize.ShloMosaic.TcCoe Idealize.SL.Sem

theorem algebraic : Cert.algebraic_KernelIdeal_ReferenceIdeal_pre_finite_inputs (hKernelIdeal := Cert.KernelIdeal.Gen.facts)
    (hReferenceIdeal := Cert.ReferenceIdeal.Gen.facts) (hPre_finite_inputs := Cert.Pre_finite_inputs.facts) := by
  intro m g m' g' hpre hargs
  refine ⟨fun c => Cert.KernelIdeal.Gen.V9 m (Cert.KernelIdeal.Whole.outs m) c (Proc.devRef .tc Cert.KernelIdeal.main_v33),
    (Cert.KernelIdeal.Whole.run m g).mono fun r h c => ⟨(h.1 c).2, (h.1 c).1⟩,
    (Cert.ReferenceIdeal.Value.run m' g').mono fun r h c => ⟨(h c).1.trans ?_, (h c).2⟩⟩
  obtain ⟨e0, e1, e2, e3⟩ := hargs c
  obtain ⟨h0, h1, h2, h3⟩ := hpre c
  rw [Cert.ReferenceIdeal.Read.result_eq, e0, e1, e2, e3]
  rw [← arrays_eq m c _ _ _ _ rfl rfl rfl rfl (Cert.Pre_finite_inputs.real0 _ _ _ _ h0) (Cert.Pre_finite_inputs.real1 _ _ _ _ h1)
    (Cert.Pre_finite_inputs.real2 _ _ _ _ h2) (Cert.Pre_finite_inputs.real3 _ _ _ _ h3)]
  exact (result_word m c).symm

end Cert.Proof

end
-- ==== Proof.lean ====
module

public import proofs.«01_k».proof.Defs
public import proofs.«01_k».proof.Proof.Frames
public import proofs.«01_k».proof.Proof.Reference
public import proofs.«01_k».proof.Proof.Algebraic

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.facts,
    frame_bits, frame_ideal, fun m g _ => frame_ideal m g trivial, frame_ref, fun m g _ => frame_ref m g trivial, trivial, algebraic⟩

end Cert.Proof

end
